-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_b1_finite_inputs [hPre_zero_b1_finite_inputs : Cert.Pre_zero_b1_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_zero_b1_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_zero_b1_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_zero_b1_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_zero_b1_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_zero_b1_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_b1_finite_inputs [hPre_zero_b1_finite_inputs : Cert.Pre_zero_b1_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_b1_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_zero_b1_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_zero_b1_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_zero_b1_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_zero_b1_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_zero_b1_finite_inputs [hKernelIdeal : Cert.KernelIdeal.Facts] [hPre_zero_b1_finite_inputs : Cert.Pre_zero_b1_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_b1_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_zero_b1_finite_inputs [hReferenceIdeal : Cert.ReferenceIdeal.Facts] [hPre_zero_b1_finite_inputs : Cert.Pre_zero_b1_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_b1_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_n" .f32 0x3651B717#32 ((320000⁻¹ : ℝ) : EReal)

def algebraic_KernelIdeal_ReferenceIdeal_pre_zero_b1_finite_inputs [hKernelIdeal : Cert.KernelIdeal.Facts] [hReferenceIdeal : Cert.ReferenceIdeal.Facts] [hPre_zero_b1_finite_inputs : Cert.Pre_zero_b1_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_b1_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_zero_b1_finite_inputs : Cert.Pre_zero_b1_finite_inputs.Facts),
    quiescent_Kernel (hKernel := hKernel)
    ∧ quiescent_KernelIdeal (hKernelIdeal := hKernelIdeal)
    ∧ quiescent_KernelIdeal_pre_zero_b1_finite_inputs (hKernelIdeal := hKernelIdeal) (hPre_zero_b1_finite_inputs := hPre_zero_b1_finite_inputs)
    ∧ quiescent_ReferenceIdeal (hReferenceIdeal := hReferenceIdeal)
    ∧ quiescent_ReferenceIdeal_pre_zero_b1_finite_inputs (hReferenceIdeal := hReferenceIdeal) (hPre_zero_b1_finite_inputs := hPre_zero_b1_finite_inputs)
    ∧ preserves_Kernel_KernelIdeal
    ∧ algebraic_KernelIdeal_ReferenceIdeal_pre_zero_b1_finite_inputs (hKernelIdeal := hKernelIdeal) (hReferenceIdeal := hReferenceIdeal) (hPre_zero_b1_finite_inputs := hPre_zero_b1_finite_inputs)
-- ==== Pre_zero_b1_finite_inputs.lean ====
abbrev S2x2x320000x1 : Shape := ⟨4, ![2, 2, 320000, 1]⟩
abbrev S128x1 : Shape := ⟨2, ![128, 1]⟩
abbrev S128 : Shape := ⟨1, ![128]⟩
abbrev S_ : Shape := ⟨0, ![]⟩
abbrev S128x128 : Shape := ⟨2, ![128, 128]⟩
abbrev S1x1x128 : Shape := ⟨3, ![1, 1, 128]⟩

class Facts : Prop where
  bcast_S_S128 : S_.BroadcastsInDim S128 (![] : Fin 0 → Fin S128.rank)
  bcast_S_S2x2x320000x1 : S_.BroadcastsInDim S2x2x320000x1 (![] : Fin 0 → Fin S2x2x320000x1.rank)
  bcast_S_S128x1 : S_.BroadcastsInDim S128x1 (![] : Fin 0 → Fin S128x1.rank)
  bcast_S_S128x128 : S_.BroadcastsInDim S128x128 (![] : Fin 0 → Fin S128x128.rank)

variable [Facts]

def fn {F : FTy → Type} [FloatOps F] (main_arg0 : FVec F S2x2x320000x1 .f32) (main_arg1 : FVec F S128x1 .f32) (main_arg2 : FVec F S128 .f32) (main_arg3 : FVec F S_ .f32) (main_arg4 : FVec F S128x128 .f32) (main_arg5 : FVec F S128 .f32) (main_arg6 : FVec F S1x1x128 .f32) : IVec S128 1 × IVec S2x2x320000x1 1 × IVec S128x1 1 × IVec S_ 1 × IVec S128x128 1 :=
  let main_cst : FVec F S_ .f32 := constant S_ .f32 0x00000000#32
  let main_v0 : FVec F S128 .f32 := broadcastInDim S128 ![] bcast_S_S128 main_cst
  let main_v1 : IVec S128 1 := cmpf .oeq main_arg2 main_v0
  let main_v2 : FVec F S2x2x320000x1 .f32 := Host.absf main_arg0
  let main_cst_0 : FVec F S_ .f32 := constant S_ .f32 0x7F800000#32
  let main_v3 : FVec F S2x2x320000x1 .f32 := broadcastInDim S2x2x320000x1 ![] bcast_S_S2x2x320000x1 main_cst_0
  let main_v4 : IVec S2x2x320000x1 1 := cmpf .olt main_v2 main_v3
  let main_v5 : FVec F S128x1 .f32 := Host.absf main_arg1
  let main_cst_1 : FVec F S_ .f32 := constant S_ .f32 0x7F800000#32
  let main_v6 : FVec F S128x1 .f32 := broadcastInDim S128x1 ![] bcast_S_S128x1 main_cst_1
  let main_v7 : IVec S128x1 1 := cmpf .olt main_v5 main_v6
  let main_v8 : FVec F S_ .f32 := Host.absf main_arg3
  let main_cst_2 : FVec F S_ .f32 := constant S_ .f32 0x7F800000#32
  let main_v9 : IVec S_ 1 := cmpf .olt main_v8 main_cst_2
  let main_v10 : FVec F S128x128 .f32 := Host.absf main_arg4
  let main_cst_3 : FVec F S_ .f32 := constant S_ .f32 0x7F800000#32
  let main_v11 : FVec F S128x128 .f32 := broadcastInDim S128x128 ![] bcast_S_S128x128 main_cst_3
  let main_v12 : IVec S128x128 1 := cmpf .olt main_v10 main_v11
  (main_v1, main_v4, main_v7, main_v9, main_v12)
-- ==== Kernel.lean ====
abbrev S2x2x320000x1 : Shape := ⟨4, ![2, 2, 320000, 1]⟩
abbrev S128x1 : Shape := ⟨2, ![128, 1]⟩
abbrev S128 : Shape := ⟨1, ![128]⟩
abbrev S_ : Shape := ⟨0, ![]⟩
abbrev S128x128 : Shape := ⟨2, ![128, 128]⟩
abbrev S1x1x128 : Shape := ⟨3, ![1, 1, 128]⟩
abbrev S2x2x320000 : Shape := ⟨3, ![2, 2, 320000]⟩
abbrev S1x1 : Shape := ⟨2, ![1, 1]⟩
abbrev S1x128x1x1 : Shape := ⟨4, ![1, 128, 1, 1]⟩
abbrev S4x128x1x1 : Shape := ⟨4, ![4, 128, 1, 1]⟩
abbrev S512x1 : Shape := ⟨2, ![512, 1]⟩
abbrev S2x320000 : Shape := ⟨2, ![2, 320000]⟩
abbrev S2x2x12800 : Shape := ⟨3, ![2, 2, 12800]⟩
abbrev S2x12800 : Shape := ⟨2, ![2, 12800]⟩
abbrev S512x16 : Shape := ⟨2, ![512, 16]⟩
abbrev S16x12800 : Shape := ⟨2, ![16, 12800]⟩
abbrev S8x128 : Shape := ⟨2, ![8, 128]⟩
abbrev S384x1 : Shape := ⟨2, ![384, 1]⟩
abbrev S256x1 : Shape := ⟨2, ![256, 1]⟩
abbrev S512x7 : Shape := ⟨2, ![512, 7]⟩
abbrev S1x12800 : Shape := ⟨2, ![1, 12800]⟩
abbrev S1x1x12800 : Shape := ⟨3, ![1, 1, 12800]⟩
abbrev S512x12800 : Shape := ⟨2, ![512, 12800]⟩
abbrev S512 : Shape := ⟨1, ![512]⟩
abbrev S128x4 : Shape := ⟨2, ![128, 4]⟩
abbrev S4 : Shape := ⟨1, ![4]⟩
abbrev S1x4 : Shape := ⟨2, ![1, 4]⟩
abbrev S1 : Shape := ⟨1, ![1]⟩
abbrev S2x320000x1 : Shape := ⟨3, ![2, 320000, 1]⟩

abbrev nBuf : Space → Nat
  | .hbm => 16
  | .vmem => 13
  | .smem => 0
  | _ => 0

abbrev bufTy : (tb : Table) → Fin (tcTables nBuf tb) → BufTy
  | .hbm, ⟨0, _⟩ => ⟨S2x2x320000x1, .f32⟩
  | .hbm, ⟨1, _⟩ => ⟨S128x1, .f32⟩
  | .hbm, ⟨2, _⟩ => ⟨S128, .f32⟩
  | .hbm, ⟨3, _⟩ => ⟨S_, .f32⟩
  | .hbm, ⟨4, _⟩ => ⟨S128x128, .f32⟩
  | .hbm, ⟨5, _⟩ => ⟨S128, .f32⟩
  | .hbm, ⟨6, _⟩ => ⟨S1x1x128, .f32⟩
  | .hbm, ⟨7, _⟩ => ⟨S2x2x320000, .f32⟩
  | .hbm, ⟨8, _⟩ => ⟨S1x1, .f32⟩
  | .hbm, ⟨9, _⟩ => ⟨S128x1, .f32⟩
  | .hbm, ⟨10, _⟩ => ⟨S128x1, .f32⟩
  | .hbm, ⟨11, _⟩ => ⟨S1x128x1x1, .f32⟩
  | .hbm, ⟨12, _⟩ => ⟨S4x128x1x1, .f32⟩
  | .hbm, ⟨13, _⟩ => ⟨S512x1, .f32⟩
  | .hbm, ⟨14, _⟩ => ⟨S2x320000, .f32⟩
  | .hbm, ⟨15, _⟩ => ⟨S2x320000x1, .f32⟩
  | .local _ .vmem, ⟨0, _⟩ => ⟨S2x2x12800, .f32⟩
  | .local _ .vmem, ⟨1, _⟩ => ⟨S2x2x12800, .f32⟩
  | .local _ .vmem, ⟨2, _⟩ => ⟨S128x1, .f32⟩
  | .local _ .vmem, ⟨3, _⟩ => ⟨S1x1, .f32⟩
  | .local _ .vmem, ⟨4, _⟩ => ⟨S128x128, .f32⟩
  | .local _ .vmem, ⟨5, _⟩ => ⟨S128x1, .f32⟩
  | .local _ .vmem, ⟨6, _⟩ => ⟨S512x1, .f32⟩
  | .local _ .vmem, ⟨7, _⟩ => ⟨S2x12800, .f32⟩
  | .local _ .vmem, ⟨8, _⟩ => ⟨S2x12800, .f32⟩
  | .local _ .vmem, ⟨9, _⟩ => ⟨S512x16, .f32⟩
  | .local _ .vmem, ⟨10, _⟩ => ⟨S16x12800, .f32⟩
  | .local _ .vmem, ⟨11, _⟩ => ⟨S512x1, .f32⟩
  | .local _ .vmem, ⟨12, _⟩ => ⟨S8x128, .f32⟩
  | _, _ => ⟨S2x2x320000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![c0_i32.toNat, v0.toNat]

abbrev stage0_0 : Fin 2 → Memref sig .tc .vmem S2x2x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x12800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_n" => some ((320000⁻¹ : ℝ) : EReal)
  | _ => none
-- ==== ReferenceIdeal.lean ====
abbrev S2x2x320000x1 : Shape := ⟨4, ![2, 2, 320000, 1]⟩
abbrev S128x1 : Shape := ⟨2, ![128, 1]⟩
abbrev S128 : Shape := ⟨1, ![128]⟩
abbrev S_ : Shape := ⟨0, ![]⟩
abbrev S128x128 : Shape := ⟨2, ![128, 128]⟩
abbrev S1x1x128 : Shape := ⟨3, ![1, 1, 128]⟩
abbrev S1x1x320000x1 : Shape := ⟨4, ![1, 1, 320000, 1]⟩
abbrev S320000x1 : Shape := ⟨2, ![320000, 1]⟩
abbrev S1x128 : Shape := ⟨2, ![1, 128]⟩
abbrev S320000x128 : Shape := ⟨2, ![320000, 128]⟩
abbrev S1x1 : Shape := ⟨2, ![1, 1]⟩
abbrev S1 : Shape := ⟨1, ![1]⟩
abbrev S4 : Shape := ⟨1, ![4]⟩
abbrev S1x320000x1 : Shape := ⟨3, ![1, 320000, 1]⟩
abbrev S2x320000x1 : Shape := ⟨3, ![2, 320000, 1]⟩

abbrev nBuf : Space → Nat
  | .hbm => 180
  | .vmem => 0
  | .smem => 0
  | _ => 0

abbrev hbmTy0_0 (i : Nat) : BufTy := match i % 128 with
  | 0 => ⟨S2x2x320000x1, .f32⟩
  | 1 => ⟨S128x1, .f32⟩
  | 2 => ⟨S128, .f32⟩
  | 3 => ⟨S_, .f32⟩
  | 4 => ⟨S128x128, .f32⟩
  | 5 => ⟨S128, .f32⟩
  | 6 => ⟨S1x1x128, .f32⟩
  | 7 => ⟨S1x1x320000x1, .f32⟩
  | 8 => ⟨S320000x1, .f32⟩
  | 9 => ⟨S1x128, .f32⟩
  | 10 => ⟨S320000x128, .f32⟩
  | 11 => ⟨S1x128, .f32⟩
  | 12 => ⟨S320000x128, .f32⟩
  | 13 => ⟨S320000x128, .f32⟩
  | 14 => ⟨S_, .f32⟩
  | 15 => ⟨S320000x128, .f32⟩
  | 16 => ⟨S320000x128, .i1⟩
  | 17 => ⟨S320000x128, .f32⟩
  | 18 => ⟨S320000x128, .f32⟩
  | 19 => ⟨S320000x128, .f32⟩
  | 20 => ⟨S128x128, .f32⟩
  | 21 => ⟨S320000x128, .f32⟩
  | 22 => ⟨S1x128, .f32⟩
  | 23 => ⟨S320000x128, .f32⟩
  | 24 => ⟨S320000x128, .f32⟩
  | 25 => ⟨S320000x128, .f32⟩
  | 26 => ⟨S_, .f32⟩
  | 27 => ⟨S128, .f32⟩
  | 28 => ⟨S_, .f32⟩
  | 29 => ⟨S128, .f32⟩
  | 30 => ⟨S128, .f32⟩
  | 31 => ⟨S1x1, .f32⟩
  | 32 => ⟨S_, .f32⟩
  | 33 => ⟨S1, .f32⟩
  | 34 => ⟨S_, .f32⟩
  | 35 => ⟨S1, .f32⟩
  | 36 => ⟨S1, .f32⟩
  | 37 => ⟨S1x1x320000x1, .f32⟩
  | 38 => ⟨S320000x1, .f32⟩
  | 39 => ⟨S1x128, .f32⟩
  | 40 => ⟨S320000x128, .f32⟩
  | 41 => ⟨S1x128, .f32⟩
  | 42 => ⟨S320000x128, .f32⟩
  | 43 => ⟨S320000x128, .f32⟩
  | 44 => ⟨S_, .f32⟩
  | 45 => ⟨S320000x128, .f32⟩
  | 46 => ⟨S320000x128, .i1⟩
  | 47 => ⟨S320000x128, .f32⟩
  | 48 => ⟨S320000x128, .f32⟩
  | 49 => ⟨S320000x128, .f32⟩
  | 50 => ⟨S128x128, .f32⟩
  | 51 => ⟨S320000x128, .f32⟩
  | 52 => ⟨S1x128, .f32⟩
  | 53 => ⟨S320000x128, .f32⟩
  | 54 => ⟨S320000x128, .f32⟩
  | 55 => ⟨S320000x128, .f32⟩
  | 56 => ⟨S_, .f32⟩
  | 57 => ⟨S128, .f32⟩
  | 58 => ⟨S_, .f32⟩
  | 59 => ⟨S128, .f32⟩
  | 60 => ⟨S128, .f32⟩
  | 61 => ⟨S1x1, .f32⟩
  | 62 => ⟨S_, .f32⟩
  | 63 => ⟨S1, .f32⟩
  | 64 => ⟨S_, .f32⟩
  | 65 => ⟨S1, .f32⟩
  | 66 => ⟨S1, .f32⟩
  | 67 => ⟨S1x1x320000x1, .f32⟩
  | 68 => ⟨S320000x1, .f32⟩
  | 69 => ⟨S1x128, .f32⟩
  | 70 => ⟨S320000x128, .f32⟩
  | 71 => ⟨S1x128, .f32⟩
  | 72 => ⟨S320000x128, .f32⟩
  | 73 => ⟨S320000x128, .f32⟩
  | 74 => ⟨S_, .f32⟩
  | 75 => ⟨S320000x128, .f32⟩
  | 76 => ⟨S320000x128, .i1⟩
  | 77 => ⟨S320000x128, .f32⟩
  | 78 => ⟨S320000x128, .f32⟩
  | 79 => ⟨S320000x128, .f32⟩
  | 80 => ⟨S128x128, .f32⟩
  | 81 => ⟨S320000x128, .f32⟩
  | 82 => ⟨S1x128, .f32⟩
  | 83 => ⟨S320000x128, .f32⟩
  | 84 => ⟨S320000x128, .f32⟩
  | 85 => ⟨S320000x128, .f32⟩
  | 86 => ⟨S_, .f32⟩
  | 87 => ⟨S128, .f32⟩
  | 88 => ⟨S_, .f32⟩
  | 89 => ⟨S128, .f32⟩
  | 90 => ⟨S128, .f32⟩
  | 91 => ⟨S1x1, .f32⟩
  | 92 => ⟨S_, .f32⟩
  | 93 => ⟨S1, .f32⟩
  | 94 => ⟨S_, .f32⟩
  | 95 => ⟨S1, .f32⟩
  | 96 => ⟨S1, .f32⟩
  | 97 => ⟨S1x1x320000x1, .f32⟩
  | 98 => ⟨S320000x1, .f32⟩
  | 99 => ⟨S1x128, .f32⟩
  | 100 => ⟨S320000x128, .f32⟩
  | 101 => ⟨S1x128, .f32⟩
  | 102 => ⟨S320000x128, .f32⟩
  | 103 => ⟨S320000x128, .f32⟩
  | 104 => ⟨S_, .f32⟩
  | 105 => ⟨S320000x128, .f32⟩
  | 106 => ⟨S320000x128, .i1⟩
  | 107 => ⟨S320000x128, .f32⟩
  | 108 => ⟨S320000x128, .f32⟩
  | 109 => ⟨S320000x128, .f32⟩
  | 110 => ⟨S128x128, .f32⟩
  | 111 => ⟨S320000x128, .f32⟩
  | 112 => ⟨S1x128, .f32⟩
  | 113 => ⟨S320000x128, .f32⟩
  | 114 => ⟨S320000x128, .f32⟩
  | 115 => ⟨S320000x128, .f32⟩
  | 116 => ⟨S_, .f32⟩
  | 117 => ⟨S128, .f32⟩
  | 118 => ⟨S_, .f32⟩
  | 119 => ⟨S128, .f32⟩
  | 120 => ⟨S128, .f32⟩
  | 121 => ⟨S1x1, .f32⟩
  | 122 => ⟨S_, .f32⟩
  | 123 => ⟨S1, .f32⟩
  | 124 => ⟨S_, .f32⟩
  | 125 => ⟨S1, .f32⟩
  | 126 => ⟨S1, .f32⟩
  | 127 => ⟨S4, .f32⟩
  | _ => ⟨S2x2x320000x1, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1, .f32⟩
  | 5 => ⟨S4, .f32⟩
  | 6 => ⟨S4, .f32⟩
  | 7 => ⟨S4, .f32⟩
  | 8 => ⟨S_, .f32⟩
  | 9 => ⟨S_, .f32⟩
  | 10 => ⟨S1, .f32⟩
  | 11 => ⟨S4, .f32⟩
  | 12 => ⟨S4, .f32⟩
  | 13 => ⟨S1x1x320000x1, .f32⟩
  | 14 => ⟨S320000x1, .f32⟩
  | 15 => ⟨S_, .f32⟩
  | 16 => ⟨S320000x1, .f32⟩
  | 17 => ⟨S1x1x320000x1, .f32⟩
  | 18 => ⟨S320000x1, .f32⟩
  | 19 => ⟨S1, .f32⟩
  | 20 => ⟨S_, .f32⟩
  | 21 => ⟨S320000x1, .f32⟩
  | 22 => ⟨S320000x1, .f32⟩
  | 23 => ⟨S320000x1, .f32⟩
  | 24 => ⟨S1x1x320000x1, .f32⟩
  | 25 => ⟨S320000x1, .f32⟩
  | 26 => ⟨S1, .f32⟩
  | 27 => ⟨S_, .f32⟩
  | 28 => ⟨S320000x1, .f32⟩
  | 29 => ⟨S320000x1, .f32⟩
  | 30 => ⟨S320000x1, .f32⟩
  | 31 => ⟨S1x1x320000x1, .f32⟩
  | 32 => ⟨S320000x1, .f32⟩
  | 33 => ⟨S_, .f32⟩
  | 34 => ⟨S320000x1, .f32⟩
  | 35 => ⟨S1x1x320000x1, .f32⟩
  | 36 => ⟨S320000x1, .f32⟩
  | 37 => ⟨S1, .f32⟩
  | 38 => ⟨S_, .f32⟩
  | 39 => ⟨S320000x1, .f32⟩
  | 40 => ⟨S320000x1, .f32⟩
  | 41 => ⟨S320000x1, .f32⟩
  | 42 => ⟨S1x1x320000x1, .f32⟩
  | 43 => ⟨S320000x1, .f32⟩
  | 44 => ⟨S1, .f32⟩
  | 45 => ⟨S_, .f32⟩
  | 46 => ⟨S320000x1, .f32⟩
  | 47 => ⟨S320000x1, .f32⟩
  | 48 => ⟨S320000x1, .f32⟩
  | 49 => ⟨S1x320000x1, .f32⟩
  | 50 => ⟨S1x320000x1, .f32⟩
  | 51 => ⟨S2x320000x1, .f32⟩
  | _ => ⟨S2x2x320000x1, .f32⟩

abbrev hbmTy (i : Nat) : BufTy := match i / 128 with
  | 0 => hbmTy0_0 i
  | 1 => hbmTy0_1 i
  | _ => ⟨S2x2x320000x1, .f32⟩

abbrev bufTy : (tb : Table) → Fin (tcTables nBuf tb) → BufTy
  | .hbm, ⟨i, _⟩ => hbmTy i
  | _, _ => ⟨S2x2x320000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_cst_13 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_14 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_15 : Ref sig .tc := ⟨.hbm, 116, rfl⟩
abbrev main_v93 : Ref sig .tc := ⟨.hbm, 117, rfl⟩
abbrev main_cst_16 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_17 : Ref sig .tc := ⟨.hbm, 122, rfl⟩
abbrev main_v97 : Ref sig .tc := ⟨.hbm, 123, rfl⟩
abbrev main_cst_18 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_19 : Ref sig .tc := ⟨.hbm, 128, rfl⟩
abbrev main_v101 : Ref sig .tc := ⟨.hbm, 129, rfl⟩
abbrev main_cst_20 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_21 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_22 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_23 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩

abbrev nD : Nat := 1
abbrev τ : Topo := Topo.v7x

variable {F : FTy → Type} [FloatOps F]
-- ==== Proof.Whole.Runs.lean ====
/- The kernel's run at any float values: the configuration of the kernel's region, its windows and scratch buffers, the conditions at each point. The text of this module is the generated one for a kernel whose output is left unnamed. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      (Pipeline.RDat.FramePostR.arr_in h c 3 rfl).trans ((hA c 3).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 25 % 2 := Pipeline.Grid.coords_val t 0 (by decide) rfl
    have e1 : (grid0.coords t 1).val = t.val / 1 % 25 := Pipeline.Grid.coords_val t 1 (by decide) rfl
    simp only [cond0_0, e0, e1]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 25 — by arithmetic of the point. -/
theorem hcond0_1 : ∀ t : Fin cfg0.N, cond0_1 (grid0.coords t) ↔ t.val < 25 :=
  (fun t => by
    have ht : t.val < 50 := Nat.lt_of_lt_of_eq t.isLt N_0
    have e0 : (grid0.coords t 0).val = t.val / 25 % 2 := Pipeline.Grid.coords_val t 0 (by decide) rfl
    have e1 : (grid0.coords t 1).val = t.val / 1 % 25 := Pipeline.Grid.coords_val t 1 (by decide) rfl
    simp only [cond0_1, e0, e1]
    word_cmp
   : ∀ t : Fin grid0.N, cond0_1 (grid0.coords t) ↔ t.val < 25)

/-- The condition of the body's `scf.if` 2 (`k0_h3`), from the grid coordinates (the skeleton's scalar
    chain substituted). -/
abbrev cond0_2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- It holds at point 25 only — by arithmetic of the point. -/
theorem hcond0_2 : ∀ t : Fin cfg0.N, cond0_2 (grid0.coords t) ↔ t.val % 50 = 25 :=
  (fun t => by
    have ht : t.val < 50 := Nat.lt_of_lt_of_eq t.isLt N_0
    have e0 : (grid0.coords t 0).val = t.val / 25 % 2 := Pipeline.Grid.coords_val t 0 (by decide) rfl
    have e1 : (grid0.coords t 1).val = t.val / 1 % 25 := Pipeline.Grid.coords_val t 1 (by decide) rfl
    simp only [cond0_2, e0, e1]
    word_cmp
   : ∀ t : Fin grid0.N, cond0_2 (grid0.coords t) ↔ t.val % 50 = 25)

/-- The condition of the body's `scf.if` 3 (`k0_h4`), from the grid coordinates (the skeleton's scalar
    chain substituted). -/
abbrev cond0_3 (i : grid0.Coords) : Prop := k0_cond4 i = 1#1
/-- It holds at the points from point 25 on — by arithmetic of the point. -/
theorem hcond0_3 : ∀ t : Fin cfg0.N, cond0_3 (grid0.coords t) ↔ 25 ≤ t.val :=
  (fun t => by
    have ht : t.val < 50 := Nat.lt_of_lt_of_eq t.isLt N_0
    have e0 : (grid0.coords t 0).val = t.val / 25 % 2 := Pipeline.Grid.coords_val t 0 (by decide) rfl
    have e1 : (grid0.coords t 1).val = t.val / 1 % 25 := Pipeline.Grid.coords_val t 1 (by decide) rfl
    simp only [cond0_3, k0_cond4, e0, e1]
    word_cmp
   : ∀ t : Fin grid0.N, cond0_3 (grid0.coords t) ↔ 25 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2x2x12800 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x12800 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x16 .f32 := Memref.whole cc0_scratch0
abbrev scM0_1 : Memref sig .tc .vmem S16x12800 .f32 := Memref.whole cc0_scratch1
abbrev scM0_2 : Memref sig .tc .vmem S512x1 .f32 := Memref.whole cc0_scratch2
abbrev scM0_3 : Memref sig .tc .vmem S8x128 .f32 := Memref.whole cc0_scratch3
/-- The scratch `arg9` the kernel carries between points, as a view: what it holds is stated through it. -/
abbrev VS0_0 : View sig .tc .vmem S512x16 .f32 := scM0_0.view
/-- The scratch `arg10` the kernel carries between points, as a view: what it holds is stated through it. -/
abbrev VS0_1 : View sig .tc .vmem S16x12800 .f32 := scM0_1.view
/-- The scratch `arg11` the kernel carries between points, as a view: what it holds is stated through it. -/
abbrev VS0_2 : View sig .tc .vmem S512x1 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Whole

end
-- ==== Proof.Whole.RunA.lean ====
/- The kernel's run at any float values: the body at the first point. The text of this module is the generated one for a kernel whose output is left unnamed. -/
module

public import proofs.«01_k».proof.Proof.Whole.Runs

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def caseRun0_A (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) :
    Σ' (LS0 : List (View.Piece (Elt F) S512x16 .f32)), Σ' (LS1 : List (View.Piece (Elt F) S16x12800 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]; · iexists _; iexact HS0
    isplitl [HS1]; · iexists _; iexact HS1
    isplitl [HS2]; · iexists _; iexact HS2
    iexists _, _; isplitr; swap; · iexact HS3
    ipureintro; rfl

end Cert.Kernel.Whole

end
-- ==== Proof.Whole.RunB.lean ====
/- The kernel's run at any float values: the body at the other points of the first phase. The text of this module is the generated one for a kernel whose output is left unnamed. -/
module

public import proofs.«01_k».proof.Proof.Whole.RunA

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 taken, `scf.if` 2 not taken, `scf.if` 3 not taken: points 1, 2, … 24: 24 of 50), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def caseRun0_B (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) :
    Σ' (LS0 : List (View.Piece (Elt F) S512x16 .f32)), Σ' (LS1 : List (View.Piece (Elt F) S16x12800 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LS2) ∗ (∃ d, owns (c : Thread nD τ) arg12 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨[], ?_, ?_, fun E K => ?run⟩
  case run =>
    simp only [cc0__body_eq_skeleton]; unfold cc0__body_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _; isplitr; · ipureintro; exact harg9.read_unread _
      iexact HS0
    isplitl [HS1]; · iexact HS1
    isplitl [HS2]; · iexists _; iexact HS2
    iexists _, _; isplitr; swap; · iexact HS3
    ipureintro; rfl

end Cert.Kernel.Whole

end
-- ==== Proof.Whole.RunC.lean ====
/- The kernel's run at any float values: the body at the first point of the second phase. The text of this module is the generated one for a kernel whose output is left unnamed. -/
module

public import proofs.«01_k».proof.Proof.Whole.RunB

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken, `scf.if` 3 taken: points 25), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def caseRun0_C (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : ¬cond0_1 i) (hc2 : cond0_2 i) (hc3 : cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) :
    Σ' (LS0 : List (View.Piece (Elt F) S512x16 .f32)), Σ' (LS1 : List (View.Piece (Elt F) S16x12800 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨[], [], [], fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    iexists _, _; isplitr; swap; · iexact HS3
    ipureintro; rfl

end Cert.Kernel.Whole

end
-- ==== Proof.Whole.RunD.lean ====
/- The kernel's run at any float values: the body at the other points of the second phase. The text of this module is the generated one for a kernel whose output is left unnamed. -/
module

public import proofs.«01_k».proof.Proof.Whole.RunC

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 26, 27, … 49: 24 of 50), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6) at anything, handed back at some contents nothing names. -/
noncomputable def caseRun0_D (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : ¬cond0_1 i) (hc2 : ¬cond0_2 i) (hc3 : cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) :
    Σ' (LS0 : List (View.Piece (Elt F) S512x16 .f32)), Σ' (LS1 : List (View.Piece (Elt F) S16x12800 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K } := by
  refine ⟨[], [], [], fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _; isplitr; · ipureintro; exact harg9.read_unread _
      iexact HS0
    isplitl [HS1]
    · iexists _; isplitr; · ipureintro; exact harg10.read_unread _
      iexact HS1
    isplitl [HS2]
    · iexists _; isplitr; · ipureintro; exact harg11.read_unread _
      iexact HS2
    iexists _, _; isplitr; swap; · iexact HS3
    ipureintro; rfl

end Cert.Kernel.Whole

end
-- ==== Proof.Whole.Frame.lean ====
/- The kernel's run at any float values: the launch, with nothing said of what the output holds. The text of this module is the generated one for a kernel whose output is left unnamed. -/
module

public import proofs.«01_k».proof.Proof.Whole.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 1 piece of `S512x16` tiling it (Lib/Ring.lean `Piece.tiledL`). -/
theorem scover0_A_0 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) (y : S512x16.Idx) :
    ∃ pc ∈ (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1, y ∈ pc.1.set :=
  View.cover_of_tiledL (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1 S512x16.size (by sl_kernel_rfl) y

/-- What case A leaves in scratch `arg9`: its pieces read back over junk. -/
def sout0_A_0 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) : Vec F S512x16 .f32 :=
  VS0_0.read (Elt F) (VS0_0.writes (Elt F) VS0_0.junk (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).1)

/-- Case A's pieces for scratch `arg10`, which the kernel carries between points, cover it: one of them a store of the WHOLE buffer (Lib/Ring.lean `sl_whole_mem`). -/
theorem scover0_A_1 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) (y : S16x12800.Idx) :
    ∃ pc ∈ (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.1, y ∈ pc.1.set :=
  View.cover_of_wholeMem (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.1 (by sl_whole_mem) y

/-- What case A leaves in scratch `arg10`: its pieces read back over junk. -/
def sout0_A_1 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) : Vec F S16x12800 .f32 :=
  VS0_1.read (Elt F) (VS0_1.writes (Elt F) VS0_1.junk (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.1)

/-- Case A's pieces for scratch `arg11`, which the kernel carries between points, cover it: 2 pieces of `S512x1` tiling it (Lib/Ring.lean `Piece.tiledL`). -/
theorem scover0_A_2 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) (y : S512x1.Idx) :
    ∃ pc ∈ (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.1, y ∈ pc.1.set :=
  View.cover_of_tiledL (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.1 S512x1.size (by sl_kernel_rfl) y

/-- What case A leaves in scratch `arg11`: its pieces read back over junk. -/
def sout0_A_2 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) : Vec F S512x1 .f32 :=
  VS0_2.read (Elt F) (VS0_2.writes (Elt F) VS0_2.junk (caseRun0_A c i arg2 harg2 arg3 harg3 arg4 harg4 arg5 harg5 arg6 harg6 arg7 harg7 arg8 harg8 arg9 harg9 arg10 harg10 arg11 harg11 arg12 harg12 hc0 hc1 hc2 hc3 x0 x1 x2 x3 x4 x5).2.2.1)

/-- Case B stores nothing into scratch `arg9`: it holds what the point before left. -/
def sout0_B_0 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S512x16 .f32 := xs0

/-- What case B leaves in scratch `arg10`: its pieces (stores, a counted loop's segment) read back over what the point before left there, which it read first. -/
def sout0_B_1 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S16x12800 .f32 :=
  arg10.view.read (Elt F) (arg10.view.writes (Elt F) (harg10.unread xs1) (caseRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).2.1)

/-- Case B's pieces for scratch `arg11`, which the kernel carries between points, cover it: 1 piece of `S512x1` tiling it (Lib/Ring.lean `Piece.tiledL`). -/
theorem scover0_B_2 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) (y : S512x1.Idx) :
    ∃ pc ∈ (caseRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).2.2.1, y ∈ pc.1.set :=
  View.cover_of_tiledL (caseRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).2.2.1 S512x1.size (by sl_kernel_rfl) y

/-- What case B leaves in scratch `arg11`: its pieces read back over junk. -/
def sout0_B_2 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : cond0_1 i) (hc2 : ¬cond0_2 i) (hc3 : ¬cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S512x1 .f32 :=
  VS0_2.read (Elt F) (VS0_2.writes (Elt F) VS0_2.junk (caseRun0_B c i arg2 harg2 arg3 harg3 arg4 harg4 arg5 harg5 arg6 harg6 arg7 harg7 arg8 harg8 arg9 harg9 arg10 harg10 arg11 harg11 arg12 harg12 hc0 hc1 hc2 hc3 x0 x1 x2 x3 x4 x5 xs0 xs1 xs2).2.2.1)

/-- Case C stores nothing into scratch `arg9`: it holds what the point before left. -/
def sout0_C_0 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : ¬cond0_1 i) (hc2 : cond0_2 i) (hc3 : cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S512x16 .f32 := xs0

/-- Case C stores nothing into scratch `arg10`: it holds what the point before left. -/
def sout0_C_1 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : ¬cond0_1 i) (hc2 : cond0_2 i) (hc3 : cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S16x12800 .f32 := xs1

/-- Case C stores nothing into scratch `arg11`: it holds what the point before left. -/
def sout0_C_2 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : ¬cond0_1 i) (hc2 : cond0_2 i) (hc3 : cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S512x1 .f32 := xs2

/-- Case D stores nothing into scratch `arg9`: it holds what the point before left. -/
def sout0_D_0 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : ¬cond0_1 i) (hc2 : ¬cond0_2 i) (hc3 : cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S512x16 .f32 := xs0

/-- Case D stores nothing into scratch `arg10`: it holds what the point before left. -/
def sout0_D_1 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : ¬cond0_1 i) (hc2 : ¬cond0_2 i) (hc3 : cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S16x12800 .f32 := xs1

/-- Case D stores nothing into scratch `arg11`: it holds what the point before left. -/
def sout0_D_2 (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole) (hc0 : ¬cond0_0 i) (hc1 : ¬cond0_1 i) (hc2 : ¬cond0_2 i) (hc3 : cond0_3 i)
    (x0 : Vec F S2x2x12800 .f32) (x1 : Vec F S128x1 .f32) (x2 : Vec F S1x1 .f32) (x3 : Vec F S128x128 .f32) (x4 : Vec F S128x1 .f32) (x5 : Vec F S512x1 .f32) (xs0 : Vec F S512x16 .f32) (xs1 : Vec F S16x12800 .f32) (xs2 : Vec F S512x1 .f32) : Vec F S512x1 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x16 .f32 × Vec F S16x12800 .f32 × Vec F S512x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 50 = 0 then
      if h1 : (n + 1) < 25 then
        if h2 : (n + 1) % 50 = 25 then
          False.elim (by have hN : n + 1 < 50 := lt_of_lt_of_eq hn (show cfg0.N = 50 from N_0); omega)
        else
          if h3 : 25 ≤ (n + 1) then
            False.elim (by have hN : n + 1 < 50 := lt_of_lt_of_eq hn (show cfg0.N = 50 from N_0); omega)
          else
            (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 50 := lt_of_lt_of_eq hn (show cfg0.N = 50 from N_0); omega)
    else
      if h1 : (n + 1) < 25 then
        if h2 : (n + 1) % 50 = 25 then
          False.elim (by have hN : n + 1 < 50 := lt_of_lt_of_eq hn (show cfg0.N = 50 from N_0); omega)
        else
          if h3 : 25 ≤ (n + 1) then
            False.elim (by have hN : n + 1 < 50 := lt_of_lt_of_eq hn (show cfg0.N = 50 from N_0); omega)
          else
            (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)
      else
        if h2 : (n + 1) % 50 = 25 then
          if h3 : 25 ≤ (n + 1) then
            (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)
          else
            False.elim (by have hN : n + 1 < 50 := lt_of_lt_of_eq hn (show cfg0.N = 50 from N_0); omega)
        else
          if h3 : 25 ≤ (n + 1) then
            (sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)
          else
            False.elim (by have hN : n + 1 < 50 := lt_of_lt_of_eq hn (show cfg0.N = 50 from N_0); omega)

/-- `outsAt0` at a point of case A: that case's contents. -/
theorem outsAt0_A (c : Dev nD) (t : Fin cfg0.N) (h0 : t.val % 50 = 0) (h1 : t.val < 25) (h2 : ¬t.val % 50 = 25) (h3 : ¬25 ≤ t.val) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 50 = 0) (h1 : t.val < 25) (h2 : ¬t.val % 50 = 25) (h3 : ¬25 ≤ t.val) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case C: that case's contents, over what the point before left. -/
theorem outsAt0_C (c : Dev nD) (t : Fin cfg0.N) (h0 : ¬t.val % 50 = 0) (h1 : ¬t.val < 25) (h2 : t.val % 50 = 25) (h3 : 25 ≤ t.val) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- `outsAt0` at a point of case D: that case's contents, over what the point before left. -/
theorem outsAt0_D (c : Dev nD) (t : Fin cfg0.N) (h0 : ¬t.val % 50 = 0) (h1 : ¬t.val < 25) (h2 : ¬t.val % 50 = 25) (h3 : 25 ≤ t.val) :
    outsAt0 m c t.val t.isLt = (sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2) ∗ (∃ d, owns (c : Thread nD τ) scM0_3 fullShare d)) ∗ (∃ r, prngReg c r)) := by
  cases n with
  | zero => exact absurd rfl hz
  | succ n => rfl

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 50 = 0
  · by_cases h1 : t.val < 25
    · by_cases h2 : t.val % 50 = 25
      · exfalso; omega
      · by_cases h3 : 25 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · rw [PhiS_castSucc m c t, PhiS_zero m c _ _ hz, PhiA0_eq]
            rw [outsAt0_A m c t h0 h1 h2 h3]
            unfold sout0_A_0 sout0_A_1 sout0_A_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
            iapply ((caseRun0_A c (grid0.coords t) _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            isplitl [HS1]; · iexact HS1
            isplitl [HS2]; · iexact HS2
            isplitl [HS3]; · iexact HS3
            iintro ⟨H0, H1, H2, H3, H4, H5, H6, ⟨%es0, HS0⟩, ⟨%es1, HS1⟩, ⟨%es2, HS2⟩, HS3⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _ _ _ _ _ _ _)
                isplitl [HS2]
                · unfold owns; iexists _; isplitr
                  swap; · iexact HS2
                  ipureintro; exact View.read_writes_of_cover _ _ _ _ _ (scover0_A_2 c _ _ _ _ _ _ _ _ _ _ _ _ _ _ _ _ _ _ _ _ _ _ _ _ _ _ _ _ _ _ _ _ _)
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexact H6
          · exfalso; have hN : t.val < 50 := lt_of_lt_of_eq t.isLt (show cfg0.N = 50 from N_0); omega
    · exfalso; omega
  · by_cases h1 : t.val < 25
    · by_cases h2 : t.val % 50 = 25
      · exfalso; omega
      · by_cases h3 : 25 ≤ t.val
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 50 := lt_of_lt_of_eq t.isLt (show cfg0.N = 50 from N_0); omega
          · rw [PhiS_castSucc m c t, PhiS_pos m c _ _ hz]
            rw [outsAt0_B m c t h0 h1 h2 h3]
            unfold sout0_B_0 sout0_B_1 sout0_B_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
            iapply ((caseRun0_B c (grid0.coords t) _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) _ _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            isplitl [HS1]; · iexact HS1
            isplitl [HS2]; · iexact HS2
            isplitl [HS3]; · iexact HS3
            iintro ⟨H0, H1, H2, H3, H4, H5, H6, HS0, HS1, ⟨%es2, HS2⟩, HS3⟩
            isplitl [HS0 HS1 HS2 HS3 Hg]
            · isplitl [HS0 HS1 HS2 HS3]
              · isplitl [HS0]
                · iexact HS0
                isplitl [HS1]
                · unfold owns; iexists _; isplitr
                  swap; · iexact HS1
                  ipureintro; rfl
                isplitl [HS2]
                · unfold owns; iexists _; isplitr
                  swap; · iexact HS2
                  ipureintro; exact View.read_writes_of_cover _ _ _ _ _ (scover0_B_2 c _ _ _ _ _ _ _ _ _ _ _ _ _ _ _ _ _ _ _ _ _ _ _ _ _ _ _ _ _ _ _ _ _ _ _ _)
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexact H6
    · by_cases h2 : t.val % 50 = 25
      · by_cases h3 : 25 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 50 := lt_of_lt_of_eq t.isLt (show cfg0.N = 50 from N_0); omega
          · rw [PhiS_castSucc m c t, PhiS_pos m c _ _ hz]
            rw [outsAt0_C m c t h0 h1 h2 h3]
            unfold sout0_C_0 sout0_C_1 sout0_C_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
            iapply ((caseRun0_C c (grid0.coords t) _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) _ _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            isplitl [HS1]; · iexact HS1
            isplitl [HS2]; · iexact HS2
            isplitl [HS3]; · iexact HS3
            iintro ⟨H0, H1, H2, H3, H4, H5, H6, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexact H6
        · exfalso; omega
      · by_cases h3 : 25 ≤ t.val
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          by_cases hz : t.val = 0
          · exfalso; have hN : t.val < 50 := lt_of_lt_of_eq t.isLt (show cfg0.N = 50 from N_0); omega
          · rw [PhiS_castSucc m c t, PhiS_pos m c _ _ hz]
            rw [outsAt0_D m c t h0 h1 h2 h3]
            unfold sout0_D_0 sout0_D_1 sout0_D_2; (try dsimp only)
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
            iapply ((caseRun0_D c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) _ _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            isplitl [HS1]; · iexact HS1
            isplitl [HS2]; · iexact HS2
            isplitl [HS3]; · iexact HS3
            iintro ⟨H0, H1, H2, H3, H4, H5, H6, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            iexact H6
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 50 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨facts, fun m ρ _ => frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Whole

end
-- ==== Proof.Hand.Common.lean ====
/- What the four cases of the kernel's body share: when each branch is taken, by the grid point; the staging and scratch
   buffers of a point; the contents the body leaves in the scratch buffers, as functions of the operands. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.ReadBack
public import Idealize.ShloMosaic.Lib.Pipeline.ValueKit
public import Idealize.ShloMosaic.Lib.Pointwise
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 50 = 0 :=
  (fun t => by
    have ht : t.val < 50 := Nat.lt_of_lt_of_eq t.isLt N_0
    have e0 : (grid0.coords t 0).val = t.val / 25 % 2 := Pipeline.Grid.coords_val t 0 (by decide) rfl
    have e1 : (grid0.coords t 1).val = t.val / 1 % 25 := Pipeline.Grid.coords_val t 1 (by decide) rfl
    simp only [cond0_0, e0, e1]
    word_cmp
   : ∀ t : Fin grid0.N, cond0_0 (grid0.coords t) ↔ t.val % 50 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 0#32)) 0#32) = 1#1
/-- It holds at the points before point 25 — by arithmetic of the point. -/
theorem hcond0_1 : ∀ t : Fin cfg0.N, cond0_1 (grid0.coords t) ↔ t.val < 25 :=
  (fun t => by
    have ht : t.val < 50 := Nat.lt_of_lt_of_eq t.isLt N_0
    have e0 : (grid0.coords t 0).val = t.val / 25 % 2 := Pipeline.Grid.coords_val t 0 (by decide) rfl
    have e1 : (grid0.coords t 1).val = t.val / 1 % 25 := Pipeline.Grid.coords_val t 1 (by decide) rfl
    simp only [cond0_1, e0, e1]
    word_cmp
   : ∀ t : Fin grid0.N, cond0_1 (grid0.coords t) ↔ t.val < 25)

/-- The condition of the body's `scf.if` 2 (`k0_h3`), from the grid coordinates (the skeleton's scalar
    chain substituted). -/
abbrev cond0_2 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- It holds at point 25 only — by arithmetic of the point. -/
theorem hcond0_2 : ∀ t : Fin cfg0.N, cond0_2 (grid0.coords t) ↔ t.val % 50 = 25 :=
  (fun t => by
    have ht : t.val < 50 := Nat.lt_of_lt_of_eq t.isLt N_0
    have e0 : (grid0.coords t 0).val = t.val / 25 % 2 := Pipeline.Grid.coords_val t 0 (by decide) rfl
    have e1 : (grid0.coords t 1).val = t.val / 1 % 25 := Pipeline.Grid.coords_val t 1 (by decide) rfl
    simp only [cond0_2, e0, e1]
    word_cmp
   : ∀ t : Fin grid0.N, cond0_2 (grid0.coords t) ↔ t.val % 50 = 25)

/-- The condition of the body's `scf.if` 3 (`k0_h4`), from the grid coordinates (the skeleton's scalar
    chain substituted). -/
abbrev cond0_3 (i : grid0.Coords) : Prop := k0_cond4 i = 1#1
/-- It holds at the points from point 25 on — by arithmetic of the point. -/
theorem hcond0_3 : ∀ t : Fin cfg0.N, cond0_3 (grid0.coords t) ↔ 25 ≤ t.val :=
  (fun t => by
    have ht : t.val < 50 := Nat.lt_of_lt_of_eq t.isLt N_0
    have e0 : (grid0.coords t 0).val = t.val / 25 % 2 := Pipeline.Grid.coords_val t 0 (by decide) rfl
    have e1 : (grid0.coords t 1).val = t.val / 1 % 25 := Pipeline.Grid.coords_val t 1 (by decide) rfl
    simp only [cond0_3, k0_cond4, e0, e1]
    word_cmp
   : ∀ t : Fin grid0.N, cond0_3 (grid0.coords t) ↔ 25 ≤ t.val)

/-! ## The memrefs of a grid point -/

/-- Each window's current staging memref at point `t`, spelled as the pipeline passes it (`bodyAt0`), and its wholeness. -/
abbrev ms0_0 (t : Fin cfg0.N) : Memref sig .tc .vmem S2x2x12800 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x12800 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S512x16 .f32 := Memref.whole cc0_scratch0
abbrev scM0_1 : Memref sig .tc .vmem S16x12800 .f32 := Memref.whole cc0_scratch1
abbrev scM0_2 : Memref sig .tc .vmem S512x1 .f32 := Memref.whole cc0_scratch2
abbrev scM0_3 : Memref sig .tc .vmem S8x128 .f32 := Memref.whole cc0_scratch3
/-- The frame kit's invariant with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## What the scratch buffers hold -/

/-- The left matrix the first point builds from `W1` (`x1`), `prelu_w` (`x2`), `W2` (`x3`) and `b2` (`x4`). -/
def lhsOf (x1 : Vec Ideal S128x1 .f32) (x2 : Vec Ideal S1x1 .f32) (x3 : Vec Ideal S128x128 .f32) (x4 : Vec Ideal S128x1 .f32) :
    Vec Ideal S512x16 .f32 :=
  k0_pay1 (k0_pay14 x2 x1 x3) (k0_pay15 x4) (k0_pay16 x2 x1 x3) (k0_pay17 x2 x1 x3) (k0_pay18 x2 x1 x3) (k0_pay19 x2 x1 x3)
    (k0_pay20 x2 x1 x3) (k0_pay21 x2 x1 x3) (k0_pay22 x2 x1 x3) (Scalar.ofBits .f32 0x00000000#32)

/-- The right matrix a first-phase point builds from its tile of the samples: rows 2r and 2r+1 hold the positive and the
    negative parts of the r-th series, row 8 holds ones, the rows under it zeros. -/
def rhsOf (x0 : Vec Ideal S2x2x12800 .f32) : Vec Ideal S16x12800 .f32 := fun y =>
  let r := (y 0).val
  if h : r < 8 then
    let v := x0 (ix3 ⟨r / 4, by omega⟩ ⟨r / 2 % 2, by omega⟩ (y 1))
    if r % 2 = 0 then max v 0 else min v 0
  else if r = 8 then 1 else 0

/-- The running row sums after a first-phase point: the sums before it plus this tile's. -/
def accOf (L : Vec Ideal S512x16 .f32) (x0 : Vec Ideal S2x2x12800 .f32) (a : Vec Ideal S512x1 .f32) : Vec Ideal S512x1 .f32 :=
  k0_pay9 L (rhsOf x0) a

/-- The block a second-phase point writes: each output row is the two samples of its lane weighed by the attention weights `b`. -/
def outOf (x0 : Vec Ideal S2x2x12800 .f32) (b : Vec Ideal S1x4 .f32) : Vec Ideal S2x12800 .f32 := fun y =>
  x0 (ix3 0 (y 0) (y 1)) * b (ix2 0 ⟨(y 0).val, by have := (y 0).isLt; simp at this; omega⟩)
    + x0 (ix3 1 (y 0) (y 1)) * b (ix2 0 ⟨2 + (y 0).val, by have := (y 0).isLt; simp at this; omega⟩)

/-- The weight buffer holds the four weights `b` at the head of its first row. -/
def WeightsIn (d : Vec Ideal S8x128 .f32) (b : Vec Ideal S1x4 .f32) : Prop :=
  ∀ k : Fin 4, d (ix2 0 ⟨k.val, by omega⟩) = b (ix2 0 k)

end Cert.KernelIdeal.Hand

end
-- ==== Proof.Hand.Rows.lean ====
/- The right matrix row by row: eight row stores over a buffer whose rows from 8 on are already in place leave `rhsOf`. -/
module

public import proofs.«01_k».proof.Proof.Hand.Common
public import Idealize.ShloMosaic.Lib.WritesUnit
public import Idealize.ShloMosaic.Lib.WholeRead
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

/-- The eight row stores of a first-phase point, newest first: the negative and positive parts of the four series of the tile `x0`. -/
def rowPieces (x0 : Vec Ideal S2x2x12800 .f32) : List (View.Piece (Elt Ideal) S16x12800 .f32) :=
  [⟨Rect.unit ![7, 0] ![1, 12800] inb_S16x12800_S1x12800_7_0, k0_pay8 (View.ld x0 (Rect.unit ![1, 1, 0] ![1, 1, 12800] inb_S2x2x12800_S1x1x12800_1_1_0))⟩,
   ⟨Rect.unit ![6, 0] ![1, 12800] inb_S16x12800_S1x12800_6_0, k0_pay7 (View.ld x0 (Rect.unit ![1, 1, 0] ![1, 1, 12800] inb_S2x2x12800_S1x1x12800_1_1_0))⟩,
   ⟨Rect.unit ![5, 0] ![1, 12800] inb_S16x12800_S1x12800_5_0, k0_pay5 (k0_pay29 (View.ld x0 (Rect.unit ![1, 0, 0] ![1, 1, 12800] inb_S2x2x12800_S1x1x12800_1_0_0)))⟩,
   ⟨Rect.unit ![4, 0] ![1, 12800] inb_S16x12800_S1x12800_4_0, k0_pay30 (View.ld x0 (Rect.unit ![1, 0, 0] ![1, 1, 12800] inb_S2x2x12800_S1x1x12800_1_0_0))⟩,
   ⟨Rect.unit ![3, 0] ![1, 12800] inb_S16x12800_S1x12800_3_0, k0_pay28 (View.ld x0 (Rect.unit ![0, 1, 0] ![1, 1, 12800] inb_S2x2x12800_S1x1x12800_0_1_0))⟩,
   ⟨Rect.unit ![2, 0] ![1, 12800] inb_S16x12800_S1x12800_2_0, k0_pay27 (View.ld x0 (Rect.unit ![0, 1, 0] ![1, 1, 12800] inb_S2x2x12800_S1x1x12800_0_1_0))⟩,
   ⟨Rect.unit ![1, 0] ![1, 12800] inb_S16x12800_S1x12800_1_0, k0_pay25 (View.ld x0 (Rect.unit ![0, 0, 0] ![1, 1, 12800] inb_S2x2x12800_S1x1x12800_0_0_0))⟩,
   ⟨Rect.unit ![0, 0] ![1, 12800] inb_S16x12800_S1x12800_0_0, k0_pay24 (View.ld x0 (Rect.unit ![0, 0, 0] ![1, 1, 12800] inb_S2x2x12800_S1x1x12800_0_0_0))⟩]

/-- A store of one whole row decides that row and leaves the others. -/
theorem read_row_cons {sig' : RefSig} {κ : Kind} {sp : Space} (v : View sig' κ sp S16x12800 .f32) (f : v.ty.Contents (Elt Ideal))
    (k : ℕ) (inb : ∀ a : Fin 2, (![k, 0] : Fin 2 → ℕ) a + (![1, 12800] : Fin 2 → ℕ) a ≤ S16x12800.size a) (w : Vec Ideal S1x12800 .f32)
    (L : List (View.Piece (Elt Ideal) S16x12800 .f32)) (a : Fin 16) (b : Fin 12800) :
    v.read (Elt Ideal) (v.writes (Elt Ideal) f ((⟨Rect.unit (s := S16x12800) ![k, 0] ![1, 12800] inb, w⟩ : View.Piece (Elt Ideal) S16x12800 .f32) :: L)) (ix2 a b)
      = if a.val = k then w (ix2 0 b) else v.read (Elt Ideal) (v.writes (Elt Ideal) f L) (ix2 a b) := by
  by_cases h : a.val = k
  · rw [if_pos h]
    exact View.read_writes_cons_rows_of_mem (d := ![16, 12800]) v f (o := k) inb w L (ix2 a b) (ix2 (0 : Fin 1) b) rfl h rfl
  · rw [if_neg h]
    exact View.read_writes_cons_rows_of_not_mem (d := ![16, 12800]) v f (o := k) (W := 1) inb w L (ix2 a b) rfl rfl (by
      simp only [ix2_0]; omega)

/-- The row stores over any contents whose rows from 8 on hold a row of ones and then zeros leave the right matrix of the tile. -/
theorem read_rowPieces {sig' : RefSig} {κ : Kind} {sp : Space} (v : View sig' κ sp S16x12800 .f32) (f : v.ty.Contents (Elt Ideal))
    (x0 : Vec Ideal S2x2x12800 .f32) (T : List (View.Piece (Elt Ideal) S16x12800 .f32))
    (hT : ∀ (a : Fin 16) (b : Fin 12800), 8 ≤ a.val → v.read (Elt Ideal) (v.writes (Elt Ideal) f T) (ix2 a b) = if a.val = 8 then (1 : EReal) else 0) :
    v.read (Elt Ideal) (v.writes (Elt Ideal) f (rowPieces x0 ++ T)) = rhsOf x0 := by
  funext y
  simp only [rowPieces, List.cons_append, List.nil_append]
  idx_vars y
  iterate 8 rw [read_row_cons]
  by_cases h8 : 8 ≤ y0.val
  · have hy := hT y0 y1 h8
    rw [hy]
    iterate 8 rw [if_neg (by omega)]
    rw [rhsOf, dif_neg (by simp only [ix2_0]; omega)]; rfl
  · obtain ⟨n, hn⟩ := y0
    simp only [not_le] at h8
    interval_cases n <;>
    simp only [Nat.reduceEqDiff, OfNat.ofNat_ne_zero, OfNat.zero_ne_ofNat, OfNat.ofNat_ne_one, OfNat.one_ne_ofNat, one_ne_zero, zero_ne_one, if_true, if_false, reduceIte] <;>
    pointwise [rhsOf, k0_pay5, k0_pay6, k0_pay7, k0_pay8, k0_pay23, k0_pay24, k0_pay25, k0_pay26, k0_pay27, k0_pay28, k0_pay29, k0_pay30]

end Cert.KernelIdeal.Hand

end
-- ==== Proof.Hand.RunA.lean ====
/- The body at the first point: it builds the left matrix, fills the right matrix and starts the row sums. -/
module

public import proofs.«01_k».proof.Proof.Hand.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- At the first point the body stores the left matrix, the right matrix of its tile and the tile's row sums over zero. -/
theorem run_A (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole)
    (hc0 : cond0_0 i) (hc1 : cond0_1 i) (hc2 : ¬cond0_2 i) (hc3 : ¬cond0_3 i)
    (x0 : Vec Ideal S2x2x12800 .f32) (x1 : Vec Ideal S128x1 .f32) (x2 : Vec Ideal S1x1 .f32) (x3 : Vec Ideal S128x128 .f32) (x4 : Vec Ideal S128x1 .f32) (x5 : Vec Ideal S512x1 .f32) (x6 : Vec Ideal S2x12800 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (lhsOf x1 x2 x3 x4) ∗ owns (c : Thread nD τ) arg10 fullShare (rhsOf x0) ∗ owns (c : Thread nD τ) arg11 fullShare (accOf (lhsOf x1 x2 x3 x4) x0 (k0_pay4 (F := Ideal))) ∗ (∃ d, owns (c : Thread nD τ) arg12 fullShare d)) -∗ K ⟨⟩))
      ⊢ wp frame (wpE (defs₀ (F := Ideal)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  skip
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have hR : run_A.sl.HS1_10 c arg2 harg2 x0 = rowPieces x0 ++ [⟨Rect.unit ![8, 0] ![1, 12800] inb_S16x12800_S1x12800_8_0, k0_pay3 (F := Ideal)⟩,
      ⟨Rect.unit ![0, 0] ![16, 12800] inb_S16x12800_S16x12800_0_0, k0_pay2 (F := Ideal)⟩] := by
    unfold run_A.sl.HS1_10 run_A.sl.r_9
    simp only [View.readAt_eq_ld, harg2.read_unread]
    rfl
  have hM : ∀ f, arg10.view.read (Elt Ideal) (arg10.view.writes (Elt Ideal) f (run_A.sl.HS1_10 c arg2 harg2 x0)) = rhsOf x0 := by
    intro f
    rw [hR]
    exact read_rowPieces arg10.view f x0 _ fun p q hp => by
      rw [read_row_cons, View.read_writes_full arg10.view]
      split
      · pointwise [k0_pay3]
      · pointwise [k0_pay2]
  have hL : run_A.sl.HS0_1 c arg3 harg3 arg4 harg4 arg5 harg5 arg6 harg6 x1 x2 x3 x4
      = [⟨Rect.unit ![0, 0] ![512, 16] inb_S512x16_S512x16_0_0, lhsOf x1 x2 x3 x4⟩] := by
    unfold run_A.sl.HS0_1 run_A.sl.r run_A.sl.r_1 run_A.sl.r_2 run_A.sl.r_3 run_A.sl.r_4 run_A.sl.r_5 run_A.sl.r_6 run_A.sl.r_7 run_A.sl.r_8 run_A.sl.cst_29
    have e1 := (View.readAt_full arg3.view (harg3.unread x1) inb_S128x1_S128x1_0_0).trans (harg3.read_unread x1)
    have e2 := (View.readAt_full arg4.view (harg4.unread x2) inb_S1x1_S1x1_0_0).trans (harg4.read_unread x2)
    have e3 := (View.readAt_full arg5.view (harg5.unread x3) inb_S128x128_S128x128_0_0).trans (harg5.read_unread x3)
    have e4 := (View.readAt_full arg6.view (harg6.unread x4) inb_S128x1_S128x1_0_0).trans (harg6.read_unread x4)
    rw [e1, e2, e3, e4]
    rfl
  have hN : ∀ f, arg9.view.read (Elt Ideal) (arg9.view.writes (Elt Ideal) f (run_A.sl.HS0_1 c arg3 harg3 arg4 harg4 arg5 harg5 arg6 harg6 x1 x2 x3 x4))
      = lhsOf x1 x2 x3 x4 := by
    intro f
    rw [hL]; exact View.read_writes_full arg9.view _ _ _ _
  isplitl [H6]
  · iexists _; isplitr; · ipureintro; exact hf6
    iexact H6
  isplitl [HS0]
  · iexists _; isplitr; swap; · iexact HS0
    ipureintro
    exact hN fs0
  isplitl [HS1]
  · iexists _; isplitr; swap; · iexact HS1
    ipureintro
    exact hM fs1
  isplitl [HS2]
  · iexists _; isplitr; swap; · iexact HS2
    ipureintro
    unfold run_A.sl.v64 run_A.sl.v65 run_A.sl.v68 View.readCov run_A.sl.HS2_1
    exact (View.read_writes_full arg11.view _ _ _ _).trans (congr (congr (congrArg k0_pay9 ((View.readAt_full arg9.view _ _).trans (hN _)))
      ((View.readAt_full arg10.view _ _).trans (hM _))) (View.readAt_writes_full arg11.view _ _ _ _ _))
  iexists _, _; isplitr; swap; · iexact HS3
  ipureintro; rfl

end Cert.KernelIdeal.Hand

end
-- ==== Proof.Hand.RunB.lean ====
/- The body at a first-phase point after the first: it refills the right matrix and adds the tile's row sums. -/
module

public import proofs.«01_k».proof.Proof.Hand.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- At a first-phase point after the first the body stores the right matrix of its tile and adds the tile's row sums to the running sums. -/
theorem run_B (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole)
    (hc0 : ¬cond0_0 i) (hc1 : cond0_1 i) (hc2 : ¬cond0_2 i) (hc3 : ¬cond0_3 i)
    (x0 : Vec Ideal S2x2x12800 .f32) (x1 : Vec Ideal S128x1 .f32) (x2 : Vec Ideal S1x1 .f32) (x3 : Vec Ideal S128x128 .f32) (x4 : Vec Ideal S128x1 .f32) (x5 : Vec Ideal S512x1 .f32) (x6 : Vec Ideal S2x12800 .f32) (L : Vec Ideal S512x16 .f32) (xp : Vec Ideal S2x2x12800 .f32) (a : Vec Ideal S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare L ∗ owns (c : Thread nD τ) arg10 fullShare (rhsOf xp) ∗ owns (c : Thread nD τ) arg11 fullShare a ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare L ∗ owns (c : Thread nD τ) arg10 fullShare (rhsOf x0) ∗ owns (c : Thread nD τ) arg11 fullShare (accOf L x0 a) ∗ (∃ d, owns (c : Thread nD τ) arg12 fullShare d)) -∗ K ⟨⟩))
      ⊢ wp frame (wpE (defs₀ (F := Ideal)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg9.eq_unread hfs0; obtain rfl := harg10.eq_unread hfs1; obtain rfl := harg11.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have hR : run_B.sl.HS1_8 c arg2 harg2 x0 = rowPieces x0 ++ [] := by
    unfold run_B.sl.HS1_8 run_B.sl.r
    simp only [View.readAt_eq_ld, harg2.read_unread]
    rfl
  have hM : arg10.view.read (Elt Ideal) (arg10.view.writes (Elt Ideal) (harg10.unread (rhsOf xp)) (run_B.sl.HS1_8 c arg2 harg2 x0)) = rhsOf x0 := by
    rw [hR]
    exact read_rowPieces arg10.view (harg10.unread (rhsOf xp)) x0 [] fun p q hp => by
      rw [View.writes_nil, harg10.read_unread, rhsOf, dif_neg (by simp only [ix2_0]; omega)]; rfl
  isplitl [H6]
  · iexists _; isplitr; · ipureintro; exact hf6
    iexact H6
  isplitl [HS0]
  · iexists _; isplitr; · ipureintro; exact harg9.read_unread _
    iexact HS0
  isplitl [HS1]
  · iexists _; isplitr; swap; · iexact HS1
    ipureintro
    exact hM
  isplitl [HS2]
  · iexists _; isplitr; swap; · iexact HS2
    ipureintro
    unfold run_B.sl.v65
    exact (View.read_writes_full arg11.view _ _ _ _).trans (congr (congr (congrArg k0_pay9 ((View.readAt_full arg9.view _ _).trans (harg9.read_unread L)))
      ((View.readAt_full arg10.view _ _).trans hM)) ((View.readAt_full arg11.view _ _).trans (harg11.read_unread a)))
  iexists _, _; isplitr; swap; · iexact HS3
  ipureintro; rfl

end Cert.KernelIdeal.Hand

end
-- ==== Proof.Hand.Out.lean ====
/- The output block of a second-phase point, and the weight buffer after the four weights are stored. -/
module

public import proofs.«01_k».proof.Proof.Hand.Rows

@[expose] public section

set_option maxRecDepth 16384

noncomputable section

namespace Cert.KernelIdeal.Hand

open Cert.KernelIdeal Cert.KernelIdeal.Gen
open Idealize.ShloMosaic Idealize.ShloMosaic.TcCoe

/-- The block stored by a second-phase point is the weighted sum of the two layers, with the weights read from the weight buffer. -/
theorem out_eq (x0 : Vec Ideal S2x2x12800 .f32) (d : Vec Ideal S8x128 .f32) (b : Vec Ideal S1x4 .f32) (hW : WeightsIn d b) :
    k0_pay11 (View.ld x0 (Rect.unit ![0, 0, 0] S1x1x12800.size inb_S2x2x12800_S1x1x12800_0_0_0))
      (View.ld d (Rect.unit ![0, 0] S1x1.size inb_S8x128_S1x1_0_0))
      (View.ld x0 (Rect.unit ![1, 0, 0] S1x1x12800.size inb_S2x2x12800_S1x1x12800_1_0_0))
      (View.ld d (Rect.unit ![0, 2] S1x1.size inb_S8x128_S1x1_0_2))
      (View.ld x0 (Rect.unit ![0, 1, 0] S1x1x12800.size inb_S2x2x12800_S1x1x12800_0_1_0))
      (View.ld d (Rect.unit ![0, 1] S1x1.size inb_S8x128_S1x1_0_1))
      (View.ld x0 (Rect.unit ![1, 1, 0] S1x1x12800.size inb_S2x2x12800_S1x1x12800_1_1_0))
      (View.ld d (Rect.unit ![0, 3] S1x1.size inb_S8x128_S1x1_0_3)) = outOf x0 b := by
  have h0 := hW 0
  have h1 := hW 1
  have h2 := hW 2
  have h3 := hW 3
  funext y
  idx_vars y
  obtain ⟨n, hn⟩ := y0
  rw [outOf]
  simp only [ix2_0, ix2_1]
  interval_cases n
  · refine Eq.trans ?_ (congrArg₂ (fun p q : EReal => x0 (ix3 0 0 y1) * p + x0 (ix3 1 0 y1) * q) h0 h2)
    pointwise [k0_pay11]
  · refine Eq.trans ?_ (congrArg₂ (fun p q : EReal => x0 (ix3 0 1 y1) * p + x0 (ix3 1 1 y1) * q) h1 h3)
    pointwise [k0_pay11]

/-- After the four weights are stored the weight buffer holds them. -/
theorem weightsIn_store {sig' : RefSig} {κ : Kind} {sp : Space} (v : View sig' κ sp S8x128 .f32) (f : v.ty.Contents (Elt Ideal)) (w : Vec Ideal S1x4 .f32) :
    WeightsIn (v.read (Elt Ideal) (v.writes (Elt Ideal) f [⟨Rect.unit (s := S8x128) ![0, 0] S1x4.size inb_S8x128_S1x4_0_0, w⟩])) w := by
  intro k
  exact View.read_writes_cons_unit_of_mem v f inb_S8x128_S1x4_0_0 w [] (ix2 0 ⟨k.val, by omega⟩) (ix2 (0 : Fin 1) k) rfl fun a => by
    fin_cases a <;> simp

end Cert.KernelIdeal.Hand

end
-- ==== Proof.Hand.RunC.lean ====
/- The body at the first point of the second phase: it turns the row sums into the four weights and writes the first output block. -/
module

public import proofs.«01_k».proof.Proof.Hand.Out

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- At the first point of the second phase the body stores the four weights and the output block they give. -/
theorem run_C (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole)
    (hc0 : ¬cond0_0 i) (hc1 : ¬cond0_1 i) (hc2 : cond0_2 i) (hc3 : cond0_3 i)
    (x0 : Vec Ideal S2x2x12800 .f32) (x1 : Vec Ideal S128x1 .f32) (x2 : Vec Ideal S1x1 .f32) (x3 : Vec Ideal S128x128 .f32) (x4 : Vec Ideal S128x1 .f32) (x5 : Vec Ideal S512x1 .f32) (a : Vec Ideal S512x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare a ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outOf x0 (k0_pay10 a x5)) ∗ (∃ d, owns (c : Thread nD τ) arg9 fullShare d) ∗ (∃ d, owns (c : Thread nD τ) arg10 fullShare d) ∗ (∃ d, owns (c : Thread nD τ) arg11 fullShare d) ∗ (∃ d, ⌜WeightsIn d (k0_pay10 a x5)⌝ ∗ owns (c : Thread nD τ) arg12 fullShare d)) -∗ K ⟨⟩))
      ⊢ wp frame (wpE (defs₀ (F := Ideal)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%fs2, %hfs2, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg11.eq_unread hfs2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  have hW : ∀ f, WeightsIn (arg12.view.read (Elt Ideal) (arg12.view.writes (Elt Ideal) f (run_C.sl.HS3_1 c arg7 harg7 arg11 harg11 x5 a))) (k0_pay10 a x5) := by
    intro f
    unfold run_C.sl.HS3_1
    have e1 := (View.readAt_full arg11.view (harg11.unread a) inb_S512x1_S512x1_0_0).trans (harg11.read_unread a)
    have e2 := (View.readAt_full arg7.view (harg7.unread x5) inb_S512x1_S512x1_0_0).trans (harg7.read_unread x5)
    rw [e1, e2]
    exact weightsIn_store arg12.view f _
  isplitl [H6]
  · iexists _; isplitr; swap; · iexact H6
    ipureintro
    unfold run_C.sl.v18 run_C.sl.v23 run_C.sl.v29 run_C.sl.v34 View.readCov
    rw [View.readAt_eq_ld, View.readAt_eq_ld, View.readAt_eq_ld, View.readAt_eq_ld, View.readAt_eq_ld, View.readAt_eq_ld, View.readAt_eq_ld, View.readAt_eq_ld, harg2.read_unread]
    exact (View.read_writes_full arg8.view _ _ _ _).trans (out_eq x0 _ _ (hW _))
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _
  isplitr
  swap
  · iexists _; isplitr; swap; · iexact HS3
    ipureintro; rfl
  ipureintro
  exact hW fs3

end Cert.KernelIdeal.Hand

end
-- ==== Proof.Hand.RunD.lean ====
/- The body at a later point of the second phase: it writes its output block with the weights already stored. -/
module

public import proofs.«01_k».proof.Proof.Hand.Out

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- At a later point of the second phase the body stores the output block the held weights give and keeps the weights. -/
theorem run_D (c : Dev nD) (i : grid0.Coords) (arg2 : Memref sig .tc .vmem S2x2x12800 .f32) (harg2 : arg2.IsWhole) (arg3 : Memref sig .tc .vmem S128x1 .f32) (harg3 : arg3.IsWhole) (arg4 : Memref sig .tc .vmem S1x1 .f32) (harg4 : arg4.IsWhole) (arg5 : Memref sig .tc .vmem S128x128 .f32) (harg5 : arg5.IsWhole) (arg6 : Memref sig .tc .vmem S128x1 .f32) (harg6 : arg6.IsWhole) (arg7 : Memref sig .tc .vmem S512x1 .f32) (harg7 : arg7.IsWhole) (arg8 : Memref sig .tc .vmem S2x12800 .f32) (harg8 : arg8.IsWhole) (arg9 : Memref sig .tc .vmem S512x16 .f32) (harg9 : arg9.IsWhole) (arg10 : Memref sig .tc .vmem S16x12800 .f32) (harg10 : arg10.IsWhole) (arg11 : Memref sig .tc .vmem S512x1 .f32) (harg11 : arg11.IsWhole) (arg12 : Memref sig .tc .vmem S8x128 .f32) (harg12 : arg12.IsWhole)
    (hc0 : ¬cond0_0 i) (hc1 : ¬cond0_1 i) (hc2 : ¬cond0_2 i) (hc3 : cond0_3 i)
    (x0 : Vec Ideal S2x2x12800 .f32) (x1 : Vec Ideal S128x1 .f32) (x2 : Vec Ideal S1x1 .f32) (x3 : Vec Ideal S128x128 .f32) (x4 : Vec Ideal S128x1 .f32) (x5 : Vec Ideal S512x1 .f32) (b : Vec Ideal S1x4 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, ⌜WeightsIn d b⌝ ∗ owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outOf x0 b) ∗ (∃ d, owns (c : Thread nD τ) arg9 fullShare d) ∗ (∃ d, owns (c : Thread nD τ) arg10 fullShare d) ∗ (∃ d, owns (c : Thread nD τ) arg11 fullShare d) ∗ (∃ d, ⌜WeightsIn d b⌝ ∗ owns (c : Thread nD τ) arg12 fullShare d)) -∗ K ⟨⟩))
      ⊢ wp frame (wpE (defs₀ (F := Ideal)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %hW, %fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg12.eq_unread hfs3
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [View.readAt_eq_ld, View.readAt_eq_ld, View.readAt_eq_ld, View.readAt_eq_ld, View.readAt_eq_ld, View.readAt_eq_ld, View.readAt_eq_ld, View.readAt_eq_ld, harg2.read_unread, harg12.read_unread]
    exact (View.read_writes_full arg8.view _ _ _ _).trans (out_eq x0 _ _ hW)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _
  isplitr
  · ipureintro; exact hW
  iexists _; isplitr; swap; · iexact HS3
  ipureintro; exact harg12.read_unread _

end Cert.KernelIdeal.Hand

end
-- ==== Proof.Hand.Frame.lean ====
/- The run of the idealized kernel: what the scratch buffers carry from point to point, the body at every point, and the launch with the output array named. -/
module

public import proofs.«01_k».proof.Proof.Hand.RunA
public import proofs.«01_k».proof.Proof.Hand.RunB
public import proofs.«01_k».proof.Proof.Hand.RunC
public import proofs.«01_k».proof.Proof.Hand.RunD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What is carried between points -/

/-- The grid's first point. -/
abbrev pt0 : Fin cfg0.N := ⟨0, by rw [show cfg0.N = 50 from N_0]; omega⟩
/-- The last point of the first phase. -/
abbrev pt24 : Fin cfg0.N := ⟨24, by rw [show cfg0.N = 50 from N_0]; omega⟩
/-- The first point of the second phase. -/
abbrev pt25 : Fin cfg0.N := ⟨25, by rw [show cfg0.N = 50 from N_0]; omega⟩

/-- The left matrix the first point stores, from the weight windows. -/
def lhsAt (c : Dev nD) : Vec Ideal S512x16 .f32 := lhsOf (iblk m c 1 pt0) (iblk m c 2 pt0) (iblk m c 3 pt0) (iblk m c 4 pt0)

/-- The running row sums after point `n`: the tiles of the points up to `n`, added one after another over zero. -/
def accAt (c : Dev nD) : (n : ℕ) → n < cfg0.N → Vec Ideal S512x1 .f32
  | 0, h => accOf (lhsAt m c) (iblk m c 0 ⟨0, h⟩) (k0_pay4 (F := Ideal))
  | n + 1, h => accOf (lhsAt m c) (iblk m c 0 ⟨n + 1, h⟩) (accAt c n (by omega))

/-- The four weights the second phase uses. -/
def weightsAt (c : Dev nD) : Vec Ideal S1x4 .f32 := k0_pay10 (accAt m c 24 pt24.isLt) (iblk m c 5 pt25)

/-- The left matrix, read at any first point. -/
theorem lhsAt_first (c : Dev nD) (t : Fin cfg0.N) (hz : t.val = 0) :
    lhsAt m c = lhsOf (iblk m c 1 t) (iblk m c 2 t) (iblk m c 3 t) (iblk m c 4 t) := by
  obtain ⟨n, hn⟩ := t; subst hz; rfl

/-- The row sums after the first point. -/
theorem accAt_first (c : Dev nD) (t : Fin cfg0.N) (hz : t.val = 0) (h : t.val + 1 - 1 < cfg0.N) :
    accAt m c (t.val + 1 - 1) h = accOf (lhsAt m c) (iblk m c 0 t) (k0_pay4 (F := Ideal)) := by
  obtain ⟨n, hn⟩ := t; subst hz; rfl

/-- The row sums after a later point, over those of the point before. -/
theorem accAt_next (c : Dev nD) (t : Fin cfg0.N) (hz : t.val ≠ 0) (h : t.val + 1 - 1 < cfg0.N) :
    accAt m c (t.val + 1 - 1) h = accOf (lhsAt m c) (iblk m c 0 t) (accAt m c (t.val - 1) (by omega)) := by
  obtain ⟨n, hn⟩ := t
  cases n with
  | zero => exact absurd rfl hz
  | succ n => rfl

/-- The weights, read at the first point of the second phase. -/
theorem weights_first (c : Dev nD) (t : Fin cfg0.N) (ht : t.val = 25) (h : t.val - 1 < cfg0.N) :
    weightsAt m c = k0_pay10 (accAt m c (t.val - 1) h) (iblk m c 5 t) := by
  obtain ⟨n, hn⟩ := t; subst ht; rfl

/-- The invariant before position `n`: at the start every scratch buffer at anything; through the first phase the left matrix, the right
    matrix of the tile just read and the running row sums; in the second phase the four weights. -/
def PhiS (c : Dev nD) (n : ℕ) (hn : n ≤ cfg0.N) : sProp 𝕄 :=
  if hz : n = 0 then Pipeline.ΦA spec0 c
  else if n ≤ 25 then
    iprop(iprop(owns (c : Thread nD τ) scM0_0 fullShare (lhsAt m c) ∗ owns (c : Thread nD τ) scM0_1 fullShare (rhsOf (iblk m c 0 ⟨n - 1, by omega⟩))
      ∗ owns (c : Thread nD τ) scM0_2 fullShare (accAt m c (n - 1) (by omega)) ∗ (∃ d, owns (c : Thread nD τ) scM0_3 fullShare d)) ∗ (∃ r, prngReg c r))
  else
    iprop(iprop((∃ d, owns (c : Thread nD τ) scM0_0 fullShare d) ∗ (∃ d, owns (c : Thread nD τ) scM0_1 fullShare d)
      ∗ (∃ d, owns (c : Thread nD τ) scM0_2 fullShare d) ∗ (∃ d, ⌜WeightsIn d (weightsAt m c)⌝ ∗ owns (c : Thread nD τ) scM0_3 fullShare d)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a first-phase point. -/
theorem PhiS_one (c : Dev nD) (n : ℕ) (h : n ≤ cfg0.N) (hz : n ≠ 0) (h25 : n ≤ 25) :
    PhiS m c n h = iprop(iprop(owns (c : Thread nD τ) scM0_0 fullShare (lhsAt m c) ∗ owns (c : Thread nD τ) scM0_1 fullShare (rhsOf (iblk m c 0 ⟨n - 1, by omega⟩))
      ∗ owns (c : Thread nD τ) scM0_2 fullShare (accAt m c (n - 1) (by omega)) ∗ (∃ d, owns (c : Thread nD τ) scM0_3 fullShare d)) ∗ (∃ r, prngReg c r)) := by
  unfold PhiS; rw [dif_neg hz, if_pos h25]

/-- After a second-phase point. -/
theorem PhiS_two (c : Dev nD) (n : ℕ) (h : n ≤ cfg0.N) (hz : n ≠ 0) (h25 : ¬n ≤ 25) :
    PhiS m c n h = iprop(iprop((∃ d, owns (c : Thread nD τ) scM0_0 fullShare d) ∗ (∃ d, owns (c : Thread nD τ) scM0_1 fullShare d)
      ∗ (∃ d, owns (c : Thread nD τ) scM0_2 fullShare d) ∗ (∃ d, ⌜WeightsIn d (weightsAt m c)⌝ ∗ owns (c : Thread nD τ) scM0_3 fullShare d)) ∗ (∃ r, prngReg c r)) := by
  unfold PhiS; rw [dif_neg hz, if_neg h25]

/-! ## The pipeline's proof data -/

/-- The proof data of the pipeline on core `c`: the arrays as the region finds them, each input's buffer left at its block, the output's at
    the weighted sum of the tile's two layers. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outOf (iblk m c 0 t) (weightsAt m c)
  Φ t := PhiS m c t.val (Nat.le_of_lt_succ t.isLt)
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The body leaves input 0's buffer at its block. -/
theorem after0_0 (c : Dev nD) (t : Fin cfg0.N) : (dats m 0 c).after 0 t = iblk m c 0 t := by dsimp only [dats]
/-- The body leaves input 1's buffer at its block. -/
theorem after0_1 (c : Dev nD) (t : Fin cfg0.N) : (dats m 0 c).after 1 t = iblk m c 1 t := by dsimp only [dats]
/-- The body leaves input 2's buffer at its block. -/
theorem after0_2 (c : Dev nD) (t : Fin cfg0.N) : (dats m 0 c).after 2 t = iblk m c 2 t := by dsimp only [dats]
/-- The body leaves input 3's buffer at its block. -/
theorem after0_3 (c : Dev nD) (t : Fin cfg0.N) : (dats m 0 c).after 3 t = iblk m c 3 t := by dsimp only [dats]
/-- The body leaves input 4's buffer at its block. -/
theorem after0_4 (c : Dev nD) (t : Fin cfg0.N) : (dats m 0 c).after 4 t = iblk m c 4 t := by dsimp only [dats]
/-- The body leaves input 5's buffer at its block. -/
theorem after0_5 (c : Dev nD) (t : Fin cfg0.N) : (dats m 0 c).after 5 t = iblk m c 5 t := by dsimp only [dats]
/-- The body leaves the output's buffer at the weighted sum. -/
theorem after0_6 (c : Dev nD) (t : Fin cfg0.N) : (dats m 0 c).after 6 t = outOf (iblk m c 0 t) (weightsAt m c) := by dsimp only [dats]
/-- The body finds input 0's buffer at its block. -/
theorem before0_0 (c : Dev nD) (t : Fin cfg0.N) (d) : (dats m 0 c).before 0 t d = iblk m c 0 t :=
  before0_0_of m (dats m 0 c) (A_eq m c 0) (after0_0 m c) t d
/-- The body finds input 1's buffer at its block. -/
theorem before0_1 (c : Dev nD) (t : Fin cfg0.N) (d) : (dats m 0 c).before 1 t d = iblk m c 1 t :=
  before0_1_of m (dats m 0 c) (A_eq m c 1) (after0_1 m c) t d
/-- The body finds input 2's buffer at its block. -/
theorem before0_2 (c : Dev nD) (t : Fin cfg0.N) (d) : (dats m 0 c).before 2 t d = iblk m c 2 t :=
  before0_2_of m (dats m 0 c) (A_eq m c 2) (after0_2 m c) t d
/-- The body finds input 3's buffer at its block. -/
theorem before0_3 (c : Dev nD) (t : Fin cfg0.N) (d) : (dats m 0 c).before 3 t d = iblk m c 3 t :=
  before0_3_of m (dats m 0 c) (A_eq m c 3) (after0_3 m c) t d
/-- The body finds input 4's buffer at its block. -/
theorem before0_4 (c : Dev nD) (t : Fin cfg0.N) (d) : (dats m 0 c).before 4 t d = iblk m c 4 t :=
  before0_4_of m (dats m 0 c) (A_eq m c 4) (after0_4 m c) t d
/-- The body finds input 5's buffer at its block. -/
theorem before0_5 (c : Dev nD) (t : Fin cfg0.N) (d) : (dats m 0 c).before 5 t d = iblk m c 5 t :=
  before0_5_of m (dats m 0 c) (A_eq m c 5) (after0_5 m c) t d

/-- The output is left alone in the first phase, -/
theorem idle0_6 : ∀ t : Fin cfg0.N, t.val < 25 → cfg0.idle 6 (grid0.coords t) = true := fun t ht => by
  show (!(k0_cond4 (grid0.coords t) == 1#1)) = true
  have h : ¬k0_cond4 (grid0.coords t) = 1#1 := fun h => absurd ((hcond0_3 t).mp h) (by omega)
  simpa using h
/-- stored in the second, -/
theorem live0_6 : ∀ t : Fin cfg0.N, 25 ≤ t.val → cfg0.idle 6 (grid0.coords t) = false := fun t ht => by
  show (!(k0_cond4 (grid0.coords t) == 1#1)) = false
  have h : k0_cond4 (grid0.coords t) = 1#1 := (hcond0_3 t).mpr ht
  simpa using h
/-- and not written back in the first. -/
theorem flush0_6 : ∀ t : Fin cfg0.N, t.val < 25 → (cfg0.win 6).flush t = false := by decide +kernel

/-! ## The body at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 6400000 in
/-- The body at any point, by the four cases of its conditions. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl]
  have hN : t.val < 50 := lt_of_lt_of_eq t.isLt (show cfg0.N = 50 from N_0)
  by_cases h1 : t.val < 25
  · have h2 : ¬t.val % 50 = 25 := by omega
    have h3 : ¬25 ≤ t.val := by omega
    by_cases hz : t.val = 0
    · have h0 : t.val % 50 = 0 := by omega
      rw [show (dats m 0 c).leavesExact 0 t = owns (c : Thread nD τ) (ms0_0 t) fullShare ((dats m 0 c).after 0 t) from rfl, after0_0]
      rw [show (dats m 0 c).leavesExact 1 t = owns (c : Thread nD τ) (ms0_1 t) fullShare ((dats m 0 c).after 1 t) from rfl, after0_1]
      rw [show (dats m 0 c).leavesExact 2 t = owns (c : Thread nD τ) (ms0_2 t) fullShare ((dats m 0 c).after 2 t) from rfl, after0_2]
      rw [show (dats m 0 c).leavesExact 3 t = owns (c : Thread nD τ) (ms0_3 t) fullShare ((dats m 0 c).after 3 t) from rfl, after0_3]
      rw [show (dats m 0 c).leavesExact 4 t = owns (c : Thread nD τ) (ms0_4 t) fullShare ((dats m 0 c).after 4 t) from rfl, after0_4]
      rw [show (dats m 0 c).leavesExact 5 t = owns (c : Thread nD τ) (ms0_5 t) fullShare ((dats m 0 c).after 5 t) from rfl, after0_5]
      rw [(dats m 0 c).leavesExact_idle 6 t (idle0_6 t h1) (flush0_6 t h1)]
      rw [PhiS_castSucc m c t, PhiS_zero m c _ _ hz, PhiA0_eq]
      rw [PhiS_one m c _ _ (by omega) (by omega)]
      rw [accAt_first m c t hz, lhsAt_first m c t hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have h0 : ¬t.val % 50 = 0 := by omega
      rw [show (dats m 0 c).leavesExact 0 t = owns (c : Thread nD τ) (ms0_0 t) fullShare ((dats m 0 c).after 0 t) from rfl, after0_0]
      rw [show (dats m 0 c).leavesExact 1 t = owns (c : Thread nD τ) (ms0_1 t) fullShare ((dats m 0 c).after 1 t) from rfl, after0_1]
      rw [show (dats m 0 c).leavesExact 2 t = owns (c : Thread nD τ) (ms0_2 t) fullShare ((dats m 0 c).after 2 t) from rfl, after0_2]
      rw [show (dats m 0 c).leavesExact 3 t = owns (c : Thread nD τ) (ms0_3 t) fullShare ((dats m 0 c).after 3 t) from rfl, after0_3]
      rw [show (dats m 0 c).leavesExact 4 t = owns (c : Thread nD τ) (ms0_4 t) fullShare ((dats m 0 c).after 4 t) from rfl, after0_4]
      rw [show (dats m 0 c).leavesExact 5 t = owns (c : Thread nD τ) (ms0_5 t) fullShare ((dats m 0 c).after 5 t) from rfl, after0_5]
      rw [(dats m 0 c).leavesExact_idle 6 t (idle0_6 t h1) (flush0_6 t h1)]
      rw [PhiS_castSucc m c t, PhiS_one m c _ _ hz (by omega)]
      rw [PhiS_one m c _ _ (by omega) (by omega)]
      rw [accAt_next m c t hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h0 : ¬t.val % 50 = 0 := by omega
    have h3 : 25 ≤ t.val := by omega
    have hz : t.val ≠ 0 := by omega
    by_cases h2 : t.val % 50 = 25
    · rw [show (dats m 0 c).leavesExact 0 t = owns (c : Thread nD τ) (ms0_0 t) fullShare ((dats m 0 c).after 0 t) from rfl, after0_0]
      rw [show (dats m 0 c).leavesExact 1 t = owns (c : Thread nD τ) (ms0_1 t) fullShare ((dats m 0 c).after 1 t) from rfl, after0_1]
      rw [show (dats m 0 c).leavesExact 2 t = owns (c : Thread nD τ) (ms0_2 t) fullShare ((dats m 0 c).after 2 t) from rfl, after0_2]
      rw [show (dats m 0 c).leavesExact 3 t = owns (c : Thread nD τ) (ms0_3 t) fullShare ((dats m 0 c).after 3 t) from rfl, after0_3]
      rw [show (dats m 0 c).leavesExact 4 t = owns (c : Thread nD τ) (ms0_4 t) fullShare ((dats m 0 c).after 4 t) from rfl, after0_4]
      rw [show (dats m 0 c).leavesExact 5 t = owns (c : Thread nD τ) (ms0_5 t) fullShare ((dats m 0 c).after 5 t) from rfl, after0_5]
      rw [show (dats m 0 c).leavesExact 6 t = owns (c : Thread nD τ) (ms0_6 t) fullShare ((dats m 0 c).after 6 t) from by
        unfold Dat.leavesExact; rw [live0_6 t h3], after0_6]
      rw [PhiS_castSucc m c t, PhiS_one m c _ _ hz (by omega)]
      rw [PhiS_two m c _ _ (by omega) (by omega)]
      rw [weights_first m c t (by omega)]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (run_C c (grid0.coords t) _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [show (dats m 0 c).leavesExact 0 t = owns (c : Thread nD τ) (ms0_0 t) fullShare ((dats m 0 c).after 0 t) from rfl, after0_0]
      rw [show (dats m 0 c).leavesExact 1 t = owns (c : Thread nD τ) (ms0_1 t) fullShare ((dats m 0 c).after 1 t) from rfl, after0_1]
      rw [show (dats m 0 c).leavesExact 2 t = owns (c : Thread nD τ) (ms0_2 t) fullShare ((dats m 0 c).after 2 t) from rfl, after0_2]
      rw [show (dats m 0 c).leavesExact 3 t = owns (c : Thread nD τ) (ms0_3 t) fullShare ((dats m 0 c).after 3 t) from rfl, after0_3]
      rw [show (dats m 0 c).leavesExact 4 t = owns (c : Thread nD τ) (ms0_4 t) fullShare ((dats m 0 c).after 4 t) from rfl, after0_4]
      rw [show (dats m 0 c).leavesExact 5 t = owns (c : Thread nD τ) (ms0_5 t) fullShare ((dats m 0 c).after 5 t) from rfl, after0_5]
      rw [show (dats m 0 c).leavesExact 6 t = owns (c : Thread nD τ) (ms0_6 t) fullShare ((dats m 0 c).after 6 t) from by
        unfold Dat.leavesExact; rw [live0_6 t h3], after0_6]
      rw [PhiS_castSucc m c t, PhiS_two m c _ _ hz (by omega)]
      rw [PhiS_two m c _ _ (by omega) (by omega)]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (run_D c (grid0.coords t) _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t` is the body at the point's buffers. -/
theorem defs₀_row (t : Fin cfg0.N) :
    defs₀ (F := Ideal) .tc cfg0.body (cfg0.bodyArgs t (cfg0.slots t)) = bodyAt0 t := by
  unfold defs₀; rw [Defs.onTc_tc]

/-- The pipeline's body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch hands the region the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch buffers back. -/
theorem hout (c : Dev nD) : (dats m 0 c).Φ (Fin.last cfg0.N) ⊢ Pipeline.ΦA spec0 c := by
  have hN : cfg0.N = 50 := N_0
  rw [show (dats m 0 c).Φ (Fin.last cfg0.N) = PhiS m c cfg0.N le_rfl from rfl, PhiS_two m c _ _ (by omega) (by omega), PhiA0_eq]
  iintro ⟨⟨HS0, HS1, HS2, ⟨%d, %hd, HS3⟩⟩, Hg⟩
  isplitl [HS0 HS1 HS2 HS3]
  · isplitl [HS0]; · iexact HS0
    isplitl [HS1]; · iexact HS1
    isplitl [HS2]; · iexact HS2
    iexists _; iexact HS3
  iexact Hg

/-! ## The run -/

set_option backward.isDefEq.respectTransparency.types false in
set_option maxHeartbeats 800000 in
/-- The launch: every array at its contents after the write-backs, and every semaphore counter at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run leaves the argument arrays as launched and every semaphore counter at zero. -/
theorem run_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Hand.Spec.lean ====
/- The attention over the four series as functions of plain numbers, and the arithmetic the two programs' forms of it share. -/
module

public import Idealize.ShloMosaic.Lib.Pointwise
public import Idealize.ShloMosaic.Lib.Tactic

@[expose] public section

set_option maxRecDepth 16384

noncomputable section

namespace Cert.Spec

open Idealize.ShloMosaic

/-! ## The mathematics -/

/-- The parametric rectifier with slope `a` below zero. -/
def prelu (a t : EReal) : EReal := if 0 ≤ t then t else a * t

/-- One hidden unit of one sample: the second layer's row `W` and bias `b` over the rectified first layer, through the hyperbolic tangent. -/
def act (a : EReal) (w W : Fin 128 → EReal) (b x : EReal) : EReal :=
  Ideal.tanh (∑ j, prelu a (x * w j) * W j + b)

/-- A hidden unit summed over a series of samples. -/
def total (a : EReal) (w W : Fin 128 → EReal) (b : EReal) (x : Fin 320000 → EReal) : EReal :=
  ∑ n, act a w W b (x n)

/-- A series' score: the attention vector against the means of the hidden units. -/
def score (a : EReal) (w : Fin 128 → EReal) (W : Fin 128 → Fin 128 → EReal) (b att : Fin 128 → EReal) (x : Fin 320000 → EReal) : EReal :=
  ∑ h, total a w (W h) (b h) x * att h * ((320000⁻¹ : ℝ) : EReal)

/-- The largest of four scores. -/
def peak (l : Fin 4 → EReal) : EReal := Finset.univ.fold max ⊥ l

/-- The softmax of four scores. -/
def weight (l : Fin 4 → EReal) (k : Fin 4) : EReal :=
  Ideal.div (Ideal.exp (l k - peak l)) (∑ i, Ideal.exp (l i - peak l))

/-- The exchange of the two middle series: the kernel orders the four by view then layer, the reference by layer then view. -/
def mid : Equiv.Perm (Fin 4) := Equiv.swap 1 2

/-- The four series' scores over the arrays of the launch, in the kernel's order: series `s` is layer `s % 2` of view `s / 2`. -/
def scores (e : (⟨4, ![2, 2, 320000, 1]⟩ : Shape).Idx → EReal) (w : (⟨2, ![128, 1]⟩ : Shape).Idx → EReal) (a : (⟨0, ![]⟩ : Shape).Idx → EReal)
    (W : (⟨2, ![128, 128]⟩ : Shape).Idx → EReal) (b : (⟨1, ![128]⟩ : Shape).Idx → EReal) (att : (⟨3, ![1, 1, 128]⟩ : Shape).Idx → EReal)
    (s : Fin 4) : EReal :=
  score (a ix0) (fun j => w (ix2 j 0)) (fun h j => W (ix2 h j)) (fun h => b (ix1 h)) (fun h => att (ix3 0 0 h))
    (fun n => e (ix4 ⟨s.val / 2, by omega⟩ ⟨s.val % 2, by omega⟩ n 0))

/-- The result: each layer's sample is the two views' samples weighed by their scores' softmax. -/
def result (e : (⟨4, ![2, 2, 320000, 1]⟩ : Shape).Idx → EReal) (w : (⟨2, ![128, 1]⟩ : Shape).Idx → EReal) (a : (⟨0, ![]⟩ : Shape).Idx → EReal)
    (W : (⟨2, ![128, 128]⟩ : Shape).Idx → EReal) (b : (⟨1, ![128]⟩ : Shape).Idx → EReal) (att : (⟨3, ![1, 1, 128]⟩ : Shape).Idx → EReal)
    (l : Fin 2) (n : Fin 320000) : EReal :=
  e (ix4 0 l n 0) * weight (scores e w a W b att) ⟨l.val, by omega⟩ + e (ix4 1 l n 0) * weight (scores e w a W b att) ⟨2 + l.val, by omega⟩

/-! ## Constants -/

/-- The pattern of the negative infinity denotes the least element. -/
theorem ofBits_least : Ideal.ofBits .f32 0xFF800000#32 = ⊥ := by
  simp [Ideal.ofBits, Ideal.ieee]

/-- The pattern of the positive infinity denotes the greatest element. -/
theorem ofBits_greatest : Ideal.ofBits .f32 0x7F800000#32 = ⊤ := by
  simp [Ideal.ofBits, Ideal.ieee]

/-- The pattern of zero denotes zero. -/
theorem ofBits_zero : Ideal.ofBits .f32 0x00000000#32 = 0 := by
  simp [Ideal.ofBits, Ideal.ieee]

/-- The reference's divisor denotes the number of samples. -/
theorem ofBits_count : Ideal.ofBits .f32 0x489C4000#32 = ((320000 : ℝ) : EReal) := by
  simp [Ideal.ofBits, Ideal.ieee, -EReal.coe_mul]; norm_num

/-- Dividing by the number of samples is multiplying by its reciprocal. -/
theorem div_count (x : EReal) : Ideal.div x (Ideal.ofBits .f32 0x489C4000#32) = x * ((320000⁻¹ : ℝ) : EReal) := by
  rw [ofBits_count]; unfold Ideal.div
  rw [if_neg (by simp), EReal.coe_inv]

/-- Dividing by one changes nothing. -/
theorem div_one' (x : EReal) : Ideal.div x 1 = x := by
  unfold Ideal.div; rw [if_neg one_ne_zero]; simp

/-! ## The softmax does not see the order -/

/-- The largest score of a reordering. -/
theorem peak_perm (l : Fin 4 → EReal) (σ : Equiv.Perm (Fin 4)) : peak (fun k => l (σ k)) = peak l := by
  unfold peak
  conv_rhs => rw [← Finset.map_univ_equiv σ]
  rw [Finset.fold_map]; rfl

/-- The softmax of a reordering is the reordering of the softmax. -/
theorem weight_perm (l : Fin 4 → EReal) (σ : Equiv.Perm (Fin 4)) (k : Fin 4) :
    weight (fun k => l (σ k)) k = weight l (σ k) := by
  unfold weight
  rw [peak_perm]
  congr 1
  exact Equiv.sum_comp σ (fun i => Ideal.exp (l i - peak l))

/-! ## The kernel's form of the hidden layer -/

/-- The coercion of the reals as a homomorphism of the additions. -/
def coeHom : ℝ →+ EReal := ⟨⟨fun r => (r : EReal), EReal.coe_zero⟩, EReal.coe_add⟩

/-- A finite sum of reals, coerced. -/
theorem coe_sum {ι : Type} (s : Finset ι) (f : ι → ℝ) : ((∑ i ∈ s, f i : ℝ) : EReal) = ∑ i ∈ s, (f i : EReal) :=
  map_sum coeHom f s

/-- The slope a weight meets at a positive sample. -/
def up (a w : EReal) : EReal := if 0 ≤ w then w else a * w

/-- The slope a weight meets at a negative sample. -/
def down (a w : EReal) : EReal := if w ≤ 0 then w else a * w

/-- The rectifier of a product of reals: the positive part of the sample times one slope plus its negative part times the other. -/
theorem prelu_mul (a x w : ℝ) :
    prelu (a : EReal) ((x : EReal) * (w : EReal)) = ((max x 0 * (if 0 ≤ w then w else a * w) + min x 0 * (if w ≤ 0 then w else a * w) : ℝ) : EReal) := by
  unfold prelu
  rw [← EReal.coe_mul, ← EReal.coe_mul a, ← EReal.coe_zero]
  simp only [EReal.coe_le_coe_iff]
  rw [← apply_ite (fun r : ℝ => (r : EReal))]
  congr 1
  rcases lt_trichotomy x 0 with hx | hx | hx
  · rw [max_eq_right hx.le, min_eq_left hx.le, zero_mul, zero_add]
    by_cases hw : w ≤ 0
    · rw [if_pos hw, if_pos (mul_nonneg_of_nonpos_of_nonpos hx.le hw)]
    · rw [if_neg hw, if_neg (not_le.mpr (mul_neg_of_neg_of_pos hx (not_le.mp hw)))]; ring
  · subst hx; simp
  · rw [max_eq_left hx.le, min_eq_right hx.le, zero_mul, add_zero]
    by_cases hw : 0 ≤ w
    · rw [if_pos hw, if_pos (mul_nonneg hx.le hw)]
    · rw [if_neg hw, if_neg (not_le.mpr (mul_neg_of_pos_of_neg hx (not_le.mp hw)))]; ring

/-- With finite numbers the second layer over the rectified first is one number times the sample's positive part plus another times its negative
    part: what lets the kernel contract the two layers once for all samples. -/
theorem layer_split (a x : EReal) (w W : Fin 128 → EReal) (ha : ∃ r : ℝ, a = r) (hx : ∃ r : ℝ, x = r) (hw : ∀ j, ∃ r : ℝ, w j = r)
    (hW : ∀ j, ∃ r : ℝ, W j = r) :
    ∑ j, prelu a (x * w j) * W j = (∑ j, W j * up a (w j)) * max x 0 + (∑ j, W j * down a (w j)) * min x 0 := by
  obtain ⟨a, rfl⟩ := ha
  obtain ⟨x, rfl⟩ := hx
  choose w' hw using hw
  choose W' hW using hW
  obtain rfl : w = fun j => (w' j : EReal) := funext hw
  obtain rfl : W = fun j => (W' j : EReal) := funext hW
  have hu : ∀ j, (W' j : EReal) * up a (w' j) = ((W' j * (if 0 ≤ w' j then w' j else a * w' j) : ℝ) : EReal) := fun j => by
    unfold up; rw [← EReal.coe_zero, ← EReal.coe_mul a]; simp only [EReal.coe_le_coe_iff]
    rw [← apply_ite (fun r : ℝ => (r : EReal)), ← EReal.coe_mul]
  have hd : ∀ j, (W' j : EReal) * down a (w' j) = ((W' j * (if w' j ≤ 0 then w' j else a * w' j) : ℝ) : EReal) := fun j => by
    unfold down; rw [← EReal.coe_zero, ← EReal.coe_mul a]; simp only [EReal.coe_le_coe_iff]
    rw [← apply_ite (fun r : ℝ => (r : EReal)), ← EReal.coe_mul]
  have hM : max (x : EReal) 0 = ((max x 0 : ℝ) : EReal) := by
    rw [← EReal.coe_zero]; exact (EReal.coe_strictMono.monotone.map_max).symm
  have hm : min (x : EReal) 0 = ((min x 0 : ℝ) : EReal) := by
    rw [← EReal.coe_zero]; exact (EReal.coe_strictMono.monotone.map_min).symm
  simp only [hu, hd, prelu_mul]
  rw [hM, hm, ← coe_sum, ← coe_sum, ← EReal.coe_mul, ← EReal.coe_mul, ← EReal.coe_add]
  simp only [← EReal.coe_mul]
  rw [← coe_sum]
  congr 1
  rw [Finset.sum_mul, Finset.sum_mul, ← Finset.sum_add_distrib]
  exact Finset.sum_congr rfl fun j _ => by ring

/-- A finite absolute value is a real. -/
theorem real_of_abs_lt (x : EReal) (h : max x (-x) < ⊤) : ∃ r : ℝ, x = r := by
  induction x with
  | bot => simp at h
  | top => simp at h
  | coe r => exact ⟨r, rfl⟩

end Cert.Spec

end
-- ==== Proof.Hand.Ref.lean ====
/- The reference's value at an index: the attention of Spec.lean, where the first bias is zero. -/
module

public import proofs.«01_k».proof.Proof.Gen.ReferenceIdeal.Run
public import proofs.«01_k».proof.Proof.Hand.Spec
public import Idealize.ShloMosaic.Lib.Pointwise
public import Idealize.ShloMosaic.Lib.Tactic
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value Cert.Spec
open Idealize.ShloMosaic Idealize.ShloMosaic.TcCoe Idealize.ShloMosaic.Tactic

variable (V0 : Valuation τ sig (Elt Ideal))

/-- The arrays of the launch. -/
abbrev e0 : FVec Ideal S2x2x320000x1 .f32 := V0 (Proc.devRef .tc main_arg0)
abbrev e1 : FVec Ideal S128x1 .f32 := V0 (Proc.devRef .tc main_arg1)
abbrev e2 : FVec Ideal S128 .f32 := V0 (Proc.devRef .tc main_arg2)
abbrev e3 : FVec Ideal S_ .f32 := V0 (Proc.devRef .tc main_arg3)
abbrev e4 : FVec Ideal S128x128 .f32 := V0 (Proc.devRef .tc main_arg4)
abbrev e5 : FVec Ideal S128 .f32 := V0 (Proc.devRef .tc main_arg5)
abbrev e6 : FVec Ideal S1x1x128 .f32 := V0 (Proc.devRef .tc main_arg6)

variable (hb : ∀ j : Fin 128, e2 V0 (ix1 j) = 0)
include hb

/-- The first layer of view 0, layer 0. -/
theorem first_00 (n : Fin 320000) (h : Fin 128) :
    (res_main_v6 V0 : FVec Ideal S320000x128 .f32) (ix2 n h) = e0 V0 (ix4 0 0 n 0) * e1 V0 (ix2 h 0) := by
  have hb' := hb h
  unfold e2 at hb'
  unfold res_main_v6
  clean_types
  pointwise
  rw [hb']
  simp

/-- The first layer of view 1, layer 0. -/
theorem first_10 (n : Fin 320000) (h : Fin 128) :
    (res_main_v31 V0 : FVec Ideal S320000x128 .f32) (ix2 n h) = e0 V0 (ix4 1 0 n 0) * e1 V0 (ix2 h 0) := by
  have hb' := hb h
  unfold e2 at hb'
  unfold res_main_v31
  clean_types
  pointwise
  rw [hb']
  simp

/-- The first layer of view 0, layer 1. -/
theorem first_01 (n : Fin 320000) (h : Fin 128) :
    (res_main_v56 V0 : FVec Ideal S320000x128 .f32) (ix2 n h) = e0 V0 (ix4 0 1 n 0) * e1 V0 (ix2 h 0) := by
  have hb' := hb h
  unfold e2 at hb'
  unfold res_main_v56
  clean_types
  pointwise
  rw [hb']
  simp

/-- The first layer of view 1, layer 1. -/
theorem first_11 (n : Fin 320000) (h : Fin 128) :
    (res_main_v81 V0 : FVec Ideal S320000x128 .f32) (ix2 n h) = e0 V0 (ix4 1 1 n 0) * e1 V0 (ix2 h 0) := by
  have hb' := hb h
  unfold e2 at hb'
  unfold res_main_v81
  clean_types
  pointwise
  rw [hb']
  simp

omit hb in
/-- The score of one series in the form the reference computes it, the means taken before the attention vector. -/
theorem mean_score {s : Fin 4} {z : FVec Ideal S320000x128 .f32}
    (hz : ∀ (n : Fin 320000) (j : Fin 128), z (ix2 n j) = e0 V0 (ix4 ⟨s.val / 2, by omega⟩ ⟨s.val % 2, by omega⟩ n 0) * e1 V0 (ix2 j 0)) :
    Ideal.div (∑ x : Fin 1, ∑ h : Fin 128, e6 V0 (ix3 0 x h) * Ideal.div (∑ n : Fin 320000,
        Ideal.tanh (∑ j : Fin 128, (if 0 ≤ z (ix2 n j) then z (ix2 n j) else e3 V0 ix0 * z (ix2 n j)) * e4 V0 (ix2 h j) + e5 V0 (ix1 h)))
      (Ideal.ofBits .f32 0x489C4000#32)) 1 = scores (e0 V0) (e1 V0) (e3 V0) (e4 V0) (e5 V0) (e6 V0) s := by
  rw [div_one', Fin.sum_univ_one]
  unfold scores score
  refine Finset.sum_congr rfl fun h _ => ?_
  rw [div_count, ← mul_assoc, mul_comm (e6 V0 _)]
  simp only [hz]
  rfl

/-- The scores, in the reference's order. -/
theorem scores_ref (k : Fin 4) :
    (res_main_v100 V0 : FVec Ideal S4 .f32) (ix1 k) = scores (e0 V0) (e1 V0) (e3 V0) (e4 V0) (e5 V0) (e6 V0) (mid k) := by
  unfold res_main_v100
  clean_types
  pointwise
  fin_vals k with hk
  all_goals simp only [hk, Nat.reduceSub, Nat.reduceLT, ↓reduceDIte]
  · obtain rfl : k = 0 := Fin.ext hk
    rw [show mid 0 = 0 from by decide]
    exact mean_score V0 (fun n j => first_00 V0 hb n j)
  · obtain rfl : k = 1 := Fin.ext hk
    rw [show mid 1 = 2 from by decide]
    exact mean_score V0 (fun n j => first_10 V0 hb n j)
  · obtain rfl : k = 2 := Fin.ext hk
    rw [show mid 2 = 1 from by decide]
    exact mean_score V0 (fun n j => first_01 V0 hb n j)
  · obtain rfl : k = 3 := Fin.ext hk
    rw [show mid 3 = 3 from by decide]
    exact mean_score V0 (fun n j => first_11 V0 hb n j)

/-- The softmax of the scores, in the reference's order. -/
theorem weights_ref (k : Fin 4) :
    (res_main_v110 V0 : FVec Ideal S4 .f32) (ix1 k) = weight (scores (e0 V0) (e1 V0) (e3 V0) (e4 V0) (e5 V0) (e6 V0)) (mid k) := by
  have h106 : ∀ k : Fin 4, (res_main_v106 V0 : FVec Ideal S4 .f32) (ix1 k)
      = Ideal.exp (scores (e0 V0) (e1 V0) (e3 V0) (e4 V0) (e5 V0) (e6 V0) (mid k) - peak fun k => scores (e0 V0) (e1 V0) (e3 V0) (e4 V0) (e5 V0) (e6 V0) (mid k)) := fun k => by
    unfold res_main_v106
    clean_types
    pointwise
    simp only [scores_ref V0 hb, ofBits_least]
    rw [max_eq_right bot_le]
    rfl
  rw [← weight_perm]
  unfold res_main_v110
  clean_types
  pointwise
  simp only [h106]
  rfl

/-- The reference's result. -/
theorem result_ref (l : Fin 2) (n : Fin 320000) (u : Fin 1) :
    (val3 V0 (Proc.devRef .tc main_v147) : FVec Ideal S2x320000x1 .f32) (ix3 l n u) = result (e0 V0) (e1 V0) (e3 V0) (e4 V0) (e5 V0) (e6 V0) l n := by
  rw [val3_main_v147]
  clean_types
  pointwise
  fin_vals l with hl
  all_goals simp only [hl, Nat.reduceSub, Nat.reduceLT, ↓reduceDIte]
  · obtain rfl : l = 0 := Fin.ext hl
    rw [show (res_main_v110 V0 : FVec Ideal S4 .f32) (ix1 0) = _ from weights_ref V0 hb 0,
      show (res_main_v110 V0 : FVec Ideal S4 .f32) (ix1 1) = _ from weights_ref V0 hb 1, show mid 0 = 0 from by decide, show mid 1 = 2 from by decide]
    rfl
  · obtain rfl : l = 1 := Fin.ext hl
    rw [show (res_main_v110 V0 : FVec Ideal S4 .f32) (ix1 2) = _ from weights_ref V0 hb 2,
      show (res_main_v110 V0 : FVec Ideal S4 .f32) (ix1 3) = _ from weights_ref V0 hb 3, show mid 2 = 1 from by decide, show mid 3 = 3 from by decide]
    rfl

end Cert.ReferenceIdeal.Hand

end
-- ==== Proof.Hand.Blocks.lean ====
/- The windows' blocks at an index, in terms of the launch's arrays. -/
module

public import proofs.«01_k».proof.Proof.Hand.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ)

/-! ## The launch's arrays -/

/-- The samples. -/
abbrev a0 (c : Dev nD) : FVec Ideal S2x2x320000x1 .f32 := m ((c : Thread nD τ).loc main_arg0)
/-- The first layer's weights. -/
abbrev a1 (c : Dev nD) : FVec Ideal S128x1 .f32 := m ((c : Thread nD τ).loc main_arg1)
/-- The first layer's bias. -/
abbrev a2 (c : Dev nD) : FVec Ideal S128 .f32 := m ((c : Thread nD τ).loc main_arg2)
/-- The rectifier's slope. -/
abbrev a3 (c : Dev nD) : FVec Ideal S_ .f32 := m ((c : Thread nD τ).loc main_arg3)
/-- The second layer's weights. -/
abbrev a4 (c : Dev nD) : FVec Ideal S128x128 .f32 := m ((c : Thread nD τ).loc main_arg4)
/-- The second layer's bias. -/
abbrev a5 (c : Dev nD) : FVec Ideal S128 .f32 := m ((c : Thread nD τ).loc main_arg5)
/-- The attention vector. -/
abbrev a6 (c : Dev nD) : FVec Ideal S1x1x128 .f32 := m ((c : Thread nD τ).loc main_arg6)

/-! ## The arrays the region finds -/

/-- The samples without their last axis. -/
theorem host_v0 (c : Dev nD) (i l : Fin 2) (n : Fin 320000) : (V m c main_v0 : FVec Ideal S2x2x320000 .f32) (ix3 i l n) = a0 m c (ix4 i l n 0) := by
  have e : (V m c main_v0 : FVec Ideal S2x2x320000 .f32) = shapeCast S2x2x320000 (a0 m c) shapeCasts_S2x2x320000x1_S2x2x320000 := by
    rfl
  rw [e]
  pointwise

/-- The slope as a matrix. -/
theorem host_v1 (c : Dev nD) : (V m c main_v1 : FVec Ideal S1x1 .f32) (ix2 0 0) = a3 m c ix0 := by
  have e : (V m c main_v1 : FVec Ideal S1x1 .f32) = shapeCast S1x1 (a3 m c) shapeCasts_S_S1x1 := by
    rfl
  rw [e]
  pointwise

/-- The bias as a column. -/
theorem host_v2 (c : Dev nD) (h : Fin 128) : (V m c main_v2 : FVec Ideal S128x1 .f32) (ix2 h 0) = a5 m c (ix1 h) := by
  have e : (V m c main_v2 : FVec Ideal S128x1 .f32) = shapeCast S128x1 (a5 m c) shapeCasts_S128_S128x1 := by
    rfl
  rw [e]
  pointwise

/-- The attention vector as a column, four times over. -/
theorem host_v6 (c : Dev nD) (r : Fin 4) (h : Fin 128) :
    (V m c main_v6 : FVec Ideal S512x1 .f32) (ix2 ⟨128 * r.val + h.val, by omega⟩ 0) = a6 m c (ix3 0 0 h) := by
  have e : (V m c main_v6 : FVec Ideal S512x1 .f32) = shapeCast S512x1 (broadcastInDim S4x128x1x1 ![0, 1, 2, 3] bcast_S1x128x1x1_S4x128x1x1_0_1_2_3
      (shapeCast S1x128x1x1 (shapeCast S128x1 (a6 m c) shapeCasts_S1x1x128_S128x1) shapeCasts_S128x1_S1x128x1x1 : FVec Ideal S1x128x1x1 .f32))
      shapeCasts_S4x128x1x1_S512x1 := by
    after_results
    rfl
  rw [e]
  pointwise

/-! ## The blocks -/

/-- The first window moves along the samples' axis, twice through. -/
theorem index0 : ∀ t : Fin cfg0.N, win0_0.index t = ![0, 0, t.val % 25] :=
  (by decide +kernel : ∀ t : Fin grid0.N, win0_0.index t = ![0, 0, t.val % 25])
/-- The output window stays through the first pass and moves along in the second. -/
theorem index6 : ∀ t : Fin cfg0.N, win0_6.index t = ![0, if t.val < 25 then 0 else t.val - 25] :=
  (by decide +kernel : ∀ t : Fin grid0.N, win0_6.index t = ![0, if t.val < 25 then 0 else t.val - 25])

/-- A point's tile of the samples. -/
theorem tile (c : Dev nD) (t : Fin cfg0.N) (i l : Fin 2) (n : Fin 12800) :
    (iblk m c 0 t : FVec Ideal S2x2x12800 .f32) (ix3 i l n) = a0 m c (ix4 i l ⟨t.val % 25 * 12800 + n.val, by omega⟩ 0) := by
  rw [← host_v0]
  blk_simp [iblk]
  refine congrArg (V m c main_v0) ?_
  blk_ext [index0]

/-- The first layer's weights, whole at every point. -/
theorem block1 (c : Dev nD) (t : Fin cfg0.N) (j : Fin 128) : (iblk m c 1 t : FVec Ideal S128x1 .f32) (ix2 j 0) = a1 m c (ix2 j 0) := by
  rw [show a1 m c = V m c main_arg1 from (V_main_arg1 m c).symm]
  blk_simp [iblk]
  refine congrArg (V m c main_arg1) ?_
  blk_ext [(by decide +kernel : ∀ t : Fin grid0.N, win0_1.index t = ![0, 0])]

/-- The slope, whole at every point. -/
theorem block2 (c : Dev nD) (t : Fin cfg0.N) : (iblk m c 2 t : FVec Ideal S1x1 .f32) (ix2 0 0) = a3 m c ix0 := by
  rw [← host_v1]
  blk_simp [iblk]
  refine congrArg (V m c main_v1) ?_
  blk_ext [(by decide +kernel : ∀ t : Fin grid0.N, win0_2.index t = ![0, 0])]

/-- The second layer's weights, whole at every point. -/
theorem block3 (c : Dev nD) (t : Fin cfg0.N) (h j : Fin 128) : (iblk m c 3 t : FVec Ideal S128x128 .f32) (ix2 h j) = a4 m c (ix2 h j) := by
  rw [show a4 m c = V m c main_arg4 from (V_main_arg4 m c).symm]
  blk_simp [iblk]
  refine congrArg (V m c main_arg4) ?_
  blk_ext [(by decide +kernel : ∀ t : Fin grid0.N, win0_3.index t = ![0, 0])]

/-- The bias, whole at every point. -/
theorem block4 (c : Dev nD) (t : Fin cfg0.N) (h : Fin 128) : (iblk m c 4 t : FVec Ideal S128x1 .f32) (ix2 h 0) = a5 m c (ix1 h) := by
  rw [← host_v2]
  blk_simp [iblk]
  refine congrArg (V m c main_v2) ?_
  blk_ext [(by decide +kernel : ∀ t : Fin grid0.N, win0_4.index t = ![0, 0])]

/-- The attention vector's four copies, whole at every point. -/
theorem block5 (c : Dev nD) (t : Fin cfg0.N) (r : Fin 4) (h : Fin 128) :
    (iblk m c 5 t : FVec Ideal S512x1 .f32) (ix2 ⟨128 * r.val + h.val, by omega⟩ 0) = a6 m c (ix3 0 0 h) := by
  rw [← host_v6 m c r h]
  blk_simp [iblk]
  refine congrArg (V m c main_v6) ?_
  blk_ext [(by decide +kernel : ∀ t : Fin grid0.N, win0_5.index t = ![0, 0])]

end Cert.KernelIdeal.Hand

end
-- ==== Proof.Hand.Cols.lean ====
/- The kernel's stored arrays read at an index: the left matrix's columns, the row sums and the four weights. -/
module

public import proofs.«01_k».proof.Proof.Hand.Common
public import proofs.«01_k».proof.Proof.Hand.Spec

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

/-- The contracted weight of a hidden unit at positive samples. -/
theorem pos_at (a : Vec Ideal S1x1 .f32) (w : Vec Ideal S128x1 .f32) (W : Vec Ideal S128x128 .f32) (h : Fin 128) :
    k0_pay13 a w W (ix2 h 0) = ∑ j : Fin 128, W (ix2 h j) * up (a (ix2 0 0)) (w (ix2 j 0)) := by
  unfold up
  pointwise [k0_pay13, k0_pay12]

/-- The contracted weight of a hidden unit at negative samples. -/
theorem neg_at (a : Vec Ideal S1x1 .f32) (w : Vec Ideal S128x1 .f32) (W : Vec Ideal S128x128 .f32) (h : Fin 128) :
    k0_pay14 a w W (ix2 h 0) = ∑ j : Fin 128, W (ix2 h j) * down (a (ix2 0 0)) (w (ix2 j 0)) := by
  unfold down
  pointwise [k0_pay14, k0_pay12]

/-- The left matrix at an index: row h of block r holds the two contracted weights in the block's two columns and the bias in column 8. -/
theorem cols_at (p q : FVec Ideal S128x1 .f32) (x1 : Vec Ideal S128x1 .f32) (x2 : Vec Ideal S1x1 .f32) (x3 : Vec Ideal S128x128 .f32) (x4 : Vec Ideal S128x1 .f32)
    (hp : k0_pay13 x2 x1 x3 = p) (hq : k0_pay14 x2 x1 x3 = q) (r : Fin 4) (h : Fin 128) (k : Fin 16) :
    lhsOf x1 x2 x3 x4 (ix2 ⟨128 * r.val + h.val, by omega⟩ k)
      = if k.val = 2 * r.val then p (ix2 h 0) else if k.val = 2 * r.val + 1 then q (ix2 h 0) else if k.val = 8 then x4 (ix2 h 0) else 0 := by
  have eqI : ∀ (f : FVec Ideal S128x1 .f32) (i : Fin 128) (j : Fin 1), i.val = h.val → f (ix2 i j) = f (ix2 h 0) := fun f i j e => by
    rw [Fin.ext e, Fin.fin_one_eq_zero j]
  unfold lhsOf k0_pay22 k0_pay21 k0_pay20 k0_pay19 k0_pay18 k0_pay17 k0_pay16
  rw [hp, hq]
  pointwise [k0_pay1, k0_pay15]
  have hh := h.isLt
  obtain ⟨r, hr⟩ := r
  obtain ⟨k, hk⟩ := k
  dsimp only
  interval_cases r <;> interval_cases k <;>
    simp only [Nat.reduceSub, Nat.reduceLT, Nat.reduceMul, Nat.reduceAdd, Nat.reduceEqDiff, ↓reduceIte, ↓reduceDIte] <;>
    (try split_ifs) <;> first | rfl | omega | (apply eqI; dsimp only; omega)

/-- The row sums after a tile, at an index. -/
theorem acc_at (L : Vec Ideal S512x16 .f32) (x0 : Vec Ideal S2x2x12800 .f32) (a : Vec Ideal S512x1 .f32) (i : Fin 512) :
    accOf L x0 a (ix2 i 0) = a (ix2 i 0) + ∑ n : Fin 12800, Ideal.tanh (∑ k : Fin 16, L (ix2 i k) * rhsOf x0 (ix2 k n)) := by
  unfold accOf
  pointwise [k0_pay9]

/-- The sums over the four blocks of a column, the blocks cut one after another. -/
def blockSum (f : S512x1.Idx → EReal) (r : Fin 4) : EReal :=
  ∑ x : Fin 128, if _ : r.val < 1 then f (ix2 ⟨x.val, by omega⟩ ⟨r.val, by omega⟩)
    else if _ : r.val - 1 < 1 then f (ix2 ⟨128 + x.val, by omega⟩ ⟨r.val - 1, by omega⟩)
    else if _ : r.val - 1 - 1 < 1 then f (ix2 ⟨256 + x.val, by omega⟩ ⟨r.val - 1 - 1, by omega⟩)
    else f (ix2 ⟨384 + x.val, by omega⟩ ⟨r.val - 1 - 1 - 1, by omega⟩)

/-- The block's number times its height is where it begins. -/
theorem blockSum_eq (f : S512x1.Idx → EReal) (r : Fin 4) :
    blockSum f r = ∑ h : Fin 128, f (ix2 ⟨128 * r.val + h.val, by omega⟩ 0) := by
  unfold blockSum
  refine Finset.sum_congr rfl fun x _ => ?_
  have eqI : ∀ (i i' : Fin 512) (j : Fin 1), i.val = i'.val → f (ix2 i j) = f (ix2 i' 0) := fun i i' j e => by
    rw [Fin.ext e, Fin.fin_one_eq_zero j]
  split_ifs <;> apply eqI <;> dsimp only <;> omega

/-- The kernel's named constant is the reciprocal of the number of samples. -/
theorem count_inv : (Named.named (F := Ideal) κ "inv_n" (φ := .f32) 0x3651B717#32 : EReal) = ((320000⁻¹ : ℝ) : EReal) :=
  IdealRules.named_const.ideal_named_scalar _ _ _ _ rfl

/-- The four weights, at an index. -/
theorem weights_at (s b : Vec Ideal S512x1 .f32) (k : Fin 4) :
    k0_pay10 s b (ix2 0 k) = weight (fun r : Fin 4 => ∑ h : Fin 128, s (ix2 ⟨128 * r.val + h.val, by omega⟩ 0) * b (ix2 ⟨128 * r.val + h.val, by omega⟩ 0)
      * ((320000⁻¹ : ℝ) : EReal)) k := by
  refine Eq.trans ?_ (congrArg (fun l => weight l k) (funext fun r => blockSum_eq (fun y => s y * b y * ((320000⁻¹ : ℝ) : EReal)) r))
  unfold weight peak
  pointwise [k0_pay10]
  rw [ofBits_least]
  simp only [count_inv]
  unfold blockSum
  with_reducible rfl

end Cert.KernelIdeal.Hand

end
-- ==== Proof.Hand.Total.lean ====
/- What the idealized kernel leaves: the running row sums in closed form, the four weights, and the result array, on finite inputs. -/
module

public import proofs.«01_k».proof.Proof.Hand.Blocks
public import proofs.«01_k».proof.Proof.Hand.Cols

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.SL.Sem
open Idealize.ShloMosaic.Pipeline (Dat)

/-- A row of the left matrix against a column of the right one: the two contracted weights against the sample's positive and negative
    parts, and the bias. -/
theorem row_sum (p q : FVec Ideal S128x1 .f32) (x1 : Vec Ideal S128x1 .f32) (x2 : Vec Ideal S1x1 .f32) (x3 : Vec Ideal S128x128 .f32)
    (x4 : Vec Ideal S128x1 .f32) (hp : k0_pay13 x2 x1 x3 = p) (hq : k0_pay14 x2 x1 x3 = q) (x0 : Vec Ideal S2x2x12800 .f32)
    (r : Fin 4) (h : Fin 128) (n : Fin 12800) :
    ∑ k : Fin 16, lhsOf x1 x2 x3 x4 (ix2 ⟨128 * r.val + h.val, by omega⟩ k) * rhsOf x0 (ix2 k n)
      = p (ix2 h 0) * max (x0 (ix3 ⟨r.val / 2, by omega⟩ ⟨r.val % 2, by omega⟩ n)) 0
        + q (ix2 h 0) * min (x0 (ix3 ⟨r.val / 2, by omega⟩ ⟨r.val % 2, by omega⟩ n)) 0 + x4 (ix2 h 0) := by
  simp only [cols_at p q x1 x2 x3 x4 hp hq]
  have ev : ∀ (s : Fin 4) (k : Fin 16), k.val = 2 * s.val → rhsOf x0 (ix2 k n) = max (x0 (ix3 ⟨s.val / 2, by omega⟩ ⟨s.val % 2, by omega⟩ n)) 0 := by
    intro s k hk
    unfold rhsOf
    rw [dif_pos (show ((ix2 k n : S16x12800.Idx) 0).val < 8 by rw [ix2_0]; omega)]
    dsimp only
    rw [if_pos (show ((ix2 k n : S16x12800.Idx) 0).val % 2 = 0 by rw [ix2_0]; omega)]
    refine congrArg (fun z => max (x0 z) 0) ?_
    exact congrArg₂ (fun a b => ix3 a b n) (Fin.ext (by simp only [ix2_0]; omega)) (Fin.ext (by simp only [ix2_0]; omega))
  have od : ∀ (s : Fin 4) (k : Fin 16), k.val = 2 * s.val + 1 → rhsOf x0 (ix2 k n) = min (x0 (ix3 ⟨s.val / 2, by omega⟩ ⟨s.val % 2, by omega⟩ n)) 0 := by
    intro s k hk
    unfold rhsOf
    rw [dif_pos (show ((ix2 k n : S16x12800.Idx) 0).val < 8 by rw [ix2_0]; omega)]
    dsimp only
    rw [if_neg (show ¬((ix2 k n : S16x12800.Idx) 0).val % 2 = 0 by rw [ix2_0]; omega)]
    refine congrArg (fun z => min (x0 z) 0) ?_
    exact congrArg₂ (fun a b => ix3 a b n) (Fin.ext (by simp only [ix2_0]; omega)) (Fin.ext (by simp only [ix2_0]; omega))
  have on : rhsOf x0 (ix2 8 n) = 1 := by
    unfold rhsOf
    rw [dif_neg (by simp only [ix2_0]; decide), if_pos (by simp only [ix2_0]; decide)]
  obtain ⟨r, hr⟩ := r
  simp only [Fin.sum_univ_succ, Fin.sum_univ_zero]
  interval_cases r <;> simp [-Fin.zero_eta, -Fin.mk_one]
  · rw [ev 0 0 rfl, od 0 1 rfl, on, mul_one, add_assoc]; rfl
  · rw [ev 1 2 rfl, od 1 3 rfl, on, mul_one, add_assoc]; rfl
  · rw [ev 2 4 rfl, od 2 5 rfl, on, mul_one, add_assoc]; rfl
  · rw [ev 3 6 rfl, od 3 7 rfl, on, mul_one, add_assoc]; rfl

variable (m : (ℓ : Loc nD τ sig) → Buf (Elt Ideal) ℓ)

/-- The numbers the kernel multiplies are finite. -/
structure Finite (c : Dev nD) : Prop where
  x : ∀ y, ∃ r : ℝ, a0 m c y = r
  w : ∀ y, ∃ r : ℝ, a1 m c y = r
  a : ∃ r : ℝ, a3 m c ix0 = r
  W : ∀ y, ∃ r : ℝ, a4 m c y = r

/-- A hidden unit of one sample of one series. -/
def unit (c : Dev nD) (r : Fin 4) (h : Fin 128) (n : Fin 320000) : EReal :=
  act (a3 m c ix0) (fun j => a1 m c (ix2 j 0)) (fun j => a4 m c (ix2 h j)) (a5 m c (ix1 h))
    (a0 m c (ix4 ⟨r.val / 2, by omega⟩ ⟨r.val % 2, by omega⟩ n 0))

variable {m} in
/-- A tile adds its samples' hidden units to the row sums. -/
theorem acc_tile {c : Dev nD} (hF : Finite m c) (t : Fin cfg0.N) (a : Vec Ideal S512x1 .f32) (r : Fin 4) (h : Fin 128) :
    accOf (lhsAt m c) (iblk m c 0 t) a (ix2 ⟨128 * r.val + h.val, by omega⟩ 0)
      = a (ix2 ⟨128 * r.val + h.val, by omega⟩ 0) + ∑ n : Fin 12800, unit m c r h ⟨t.val % 25 * 12800 + n.val, by omega⟩ := by
  rw [acc_at]
  congr 1
  refine Finset.sum_congr rfl fun n _ => ?_
  unfold lhsAt
  rw [row_sum _ _ _ _ _ _ rfl rfl, pos_at, neg_at, block4]
  rw [show (iblk m c 0 t : FVec Ideal S2x2x12800 .f32) (ix3 ⟨r.val / 2, by omega⟩ ⟨r.val % 2, by omega⟩ n) = _ from tile m c t _ _ n]
  simp only [block1, block2, block3]
  unfold unit act
  rw [layer_split _ _ _ _ hF.a (hF.x _) (fun j => hF.w _) (fun j => hF.W _)]

variable {m} in
/-- The row sums after a point are the sums over the samples of the tiles so far. -/
theorem acc_closed {c : Dev nD} (hF : Finite m c) (r : Fin 4) (h : Fin 128) : ∀ (n : ℕ) (hn : n < cfg0.N),
    accAt m c n hn (ix2 ⟨128 * r.val + h.val, by omega⟩ 0)
      = ∑ t : Fin (n + 1), ∑ l : Fin 12800, unit m c r h ⟨t.val % 25 * 12800 + l.val, by omega⟩
  | 0, hn => by
    rw [accAt, acc_tile hF, Fin.sum_univ_one]
    rw [show (k0_pay4 (F := Ideal)) (ix2 ⟨128 * r.val + h.val, by omega⟩ 0) = 0 by pointwise [k0_pay4], zero_add]
    rfl
  | n + 1, hn => by
    rw [accAt, acc_tile hF, acc_closed hF r h n, Fin.sum_univ_castSucc (n := n + 1)]
    rfl

variable {m} in
/-- The row sums the second phase reads are the hidden units summed over all the samples. -/
theorem acc_last {c : Dev nD} (hF : Finite m c) (r : Fin 4) (h : Fin 128) :
    accAt m c 24 pt24.isLt (ix2 ⟨128 * r.val + h.val, by omega⟩ 0) = ∑ n : Fin 320000, unit m c r h n := by
  rw [acc_closed hF]
  refine Fin.sum_mul_add_congr (S := 25) (n := 12800) (L := 320000) fun s k hl => ?_
  exact congrArg (unit m c r h) (Fin.ext (by simp only; omega))

/-- The scores of the launch's series. -/
abbrev scoresAt (c : Dev nD) : Fin 4 → EReal := scores (a0 m c) (a1 m c) (a3 m c) (a4 m c) (a5 m c) (a6 m c)

variable {m} in
/-- The weights the second phase uses are the scores' softmax. -/
theorem weights_eq {c : Dev nD} (hF : Finite m c) (k : Fin 4) : weightsAt m c (ix2 0 k) = weight (scoresAt m c) k := by
  unfold weightsAt
  rw [weights_at]
  refine congrArg (fun l => weight l k) (funext fun r => ?_)
  simp only [acc_last hF, block5]
  rfl

/-- The result, before its last axis is added. -/
def flat (c : Dev nD) : FVec Ideal S2x320000 .f32 := fun y =>
  result (a0 m c) (a1 m c) (a3 m c) (a4 m c) (a5 m c) (a6 m c) (y 0) (y 1)

variable {m} in
/-- The output array ends at the result. -/
theorem final_out {c : Dev nD} (hF : Finite m c) : (dats m 0 c).arrAt 6 cfg0.N = flat m c := by
  refine (dats m 0 c).arrAt_eq_of_covers 6 (flat m c) (by decide +kernel) fun t hf y => ?_
  have ht : ¬t.val < 25 := fun h => by rw [flush0_6 t h] at hf; cases hf
  blk_simp
  rw [after0_6]
  have h0 : (y 0).val < 2 := (y 0).isLt
  have h1 : (y 1).val < 12800 := (y 1).isLt
  have he : (win0_6.blk t).view.emb y = (ix2 ⟨(y 0).val, h0⟩ ⟨t.val % 25 * 12800 + (y 1).val, by omega⟩ : S2x320000.Idx) := by
    have ht' : t.val < 50 := Nat.lt_of_lt_of_eq t.isLt N_0
    have e := index6 t
    rw [if_neg ht] at e
    blk_ext [e]
  rw [he]
  unfold flat result outOf
  exact congrArg₂ (· + ·)
    (congrArg₂ (· * ·) (tile m c t 0 ⟨(y 0).val, h0⟩ ⟨(y 1).val, h1⟩) (weights_eq hF ⟨(y 0).val, by omega⟩))
    (congrArg₂ (· * ·) (tile m c t 1 ⟨(y 0).val, h0⟩ ⟨(y 1).val, h1⟩) (weights_eq hF ⟨2 + (y 0).val, by omega⟩))

end Cert.KernelIdeal.Hand

end
-- ==== Proof.Hand.Value.lean ====
/- The idealized kernel's run with its result named, and what the precondition says of the arrays. -/
module

public import proofs.«01_k».proof.Defs
public import proofs.«01_k».proof.Proof.Hand.Total

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The result. -/
def resultAt (c : Dev nD) : FVec Ideal S2x320000x1 .f32 := fun y =>
  result (a0 m c) (a1 m c) (a3 m c) (a4 m c) (a5 m c) (a6 m c) (y 0) (y 1)

variable {m} in
/-- The line after the region adds the result's last axis. -/
theorem tail_v8 {c : Dev nD} (hF : Finite m c) :
    (Pipeline.afterTail₀ cfgs (dats m) 0 (V0 m) [hostOps1] c main_v8 : FVec Ideal S2x320000x1 .f32) = resultAt m c := by
  have e : (Pipeline.afterTail₀ cfgs (dats m) 0 (V0 m) [hostOps1] c main_v8 : FVec Ideal S2x320000x1 .f32)
      = shapeCast S2x320000x1 (flat m c) shapeCasts_S2x320000_S2x320000x1 := by
    rw [← final_out hF]
    refine Eq.trans ?_ (congrArg (fun z : FVec Ideal S2x320000 .f32 => shapeCast S2x320000x1 z shapeCasts_S2x320000_S2x320000x1)
      (Pipeline.withArrays_arr spec0 launch0.win.arr_inj c (V0 m c) (fun w => (dats m 0 c).arrAt w cfg0.N) 6))
    rfl
  rw [e]
  funext y
  idx_vars y
  unfold resultAt
  pointwise [flat]

/-- The run, its result named. -/
theorem run_value (hF : ∀ c, Finite m c) : θ_run defs (onTc (τ := τ) (main (F := Ideal))) ⟨m, fun _ => 0, ρ⟩ (fun r => ∀ c : Dev nD,
      r.2.mem ((c.tc : Thread nD τ).loc main_v8) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨((h.1.1 c).2 main_v8 (Pipeline.mem_restRefs_of main_v8 (by decide) (by decide))).trans (tail_v8 (hF c)), h.2.1 c⟩)
    (θ_run_and (run_main m ρ) (run_frame m ρ))

/-- What the precondition's side conditions are. -/
theorem pre_facts : Cert.Pre_zero_b1_finite_inputs.Facts where
  bcast_S_S128 := by decide
  bcast_S_S2x2x320000x1 := by decide
  bcast_S_S128x1 := by decide
  bcast_S_S128x128 := by decide

/-- A number whose absolute value compares below the positive infinity is finite. -/
theorem real_of_cmp {s : Shape} (x b : FVec Ideal s .f32) (y : s.Idx) (hb : b y = Ideal.ofBits .f32 0x7F800000#32)
    (h : cmpf .olt (Host.absf x) b y = 1#1) : ∃ r : ℝ, x y = r := by
  have h' : Ideal.cmp .olt (max (x y) (-(x y))) (b y) = 1#1 := h
  rw [hb, ofBits_greatest] at h'
  refine real_of_abs_lt (x y) ?_
  by_contra hn
  simp [Ideal.cmp, hn] at h'

/-- A number that compares equal to zero is zero. -/
theorem zero_of_cmp {s : Shape} (x b : FVec Ideal s .f32) (y : s.Idx) (hb : b y = 0) (h : cmpf .oeq x b y = 1#1) : x y = 0 := by
  have h' : Ideal.cmp .oeq (x y) (b y) = 1#1 := h
  rw [hb] at h'
  by_contra hn
  simp [Ideal.cmp, hn] at h'

/-- The precondition makes the numbers the kernel multiplies finite. -/
theorem finite_of_pre (hp : Cert.Pre_KernelIdeal_zero_b1_finite_inputs (hPre_zero_b1_finite_inputs := pre_facts) m) (c : Dev nD) : Finite m c := by
  obtain ⟨-, h0, h1, h3, h4⟩ := hp c
  exact ⟨fun y => real_of_cmp _ _ y rfl (congrFun h0 y), fun y => real_of_cmp _ _ y rfl (congrFun h1 y),
    real_of_cmp _ _ ix0 rfl (congrFun h3 ix0), fun y => real_of_cmp _ _ y rfl (congrFun h4 y)⟩

/-- The precondition makes the first bias zero. -/
theorem bias_of_pre (hp : Cert.Pre_KernelIdeal_zero_b1_finite_inputs (hPre_zero_b1_finite_inputs := pre_facts) m) (c : Dev nD) (j : Fin 128) :
    a2 m c (ix1 j) = 0 :=
  zero_of_cmp (a2 m c) _ (ix1 j) ofBits_zero (congrFun (hp c).1 (ix1 j))

end Cert.KernelIdeal.Hand

end
-- ==== Proof.Hand.Algebraic.lean ====
/- The idealized kernel and the reference end at one result, where the first bias is zero and the multiplied numbers are finite. -/
module

public import proofs.«01_k».proof.Proof.Hand.Ref
public import proofs.«01_k».proof.Proof.Hand.Value

@[expose] public section

set_option maxRecDepth 16384

noncomputable section

namespace Cert.Hand

open Idealize.ShloMosaic Idealize.ShloMosaic.TcCoe Idealize.ShloMosaic.Tactic Idealize.SL.Sem

/-- The two results are one. -/
theorem algebraic : Cert.algebraic_KernelIdeal_ReferenceIdeal_pre_zero_b1_finite_inputs
    (hPre_zero_b1_finite_inputs := Cert.KernelIdeal.Hand.pre_facts) := by
  intro m ρ m' ρ' hpre hagree
  refine ⟨fun c => Cert.KernelIdeal.Hand.resultAt m c,
    Cert.KernelIdeal.Hand.run_value m ρ (Cert.KernelIdeal.Hand.finite_of_pre m hpre), ?_⟩
  refine (θ_run Cert.ReferenceIdeal.defs _ _).mono (fun _ h c => ?_) (Cert.ReferenceIdeal.Value.run (F := Ideal) m' ρ')
  refine ⟨(h c).1.trans ((Cert.ReferenceIdeal.Value.val3_main_v147 (StableHlo.launchContents m' c)).symm.trans ?_), (h c).2⟩
  obtain ⟨e0, e1, e2, e3, e4, e5, e6⟩ := hagree c
  have hb : ∀ j : Fin 128, Cert.ReferenceIdeal.Hand.e2 (StableHlo.launchContents m' c) (ix1 j) = 0 := fun j =>
    (congrFun e2 (ix1 j)).trans (Cert.KernelIdeal.Hand.bias_of_pre m hpre c j)
  refine funext fun (y : Cert.ReferenceIdeal.S2x320000x1.Idx) => ?_
  idx_vars y
  refine (Cert.ReferenceIdeal.Hand.result_ref _ hb y0 y1 y2).trans ?_
  rw [show Cert.ReferenceIdeal.Hand.e0 (StableHlo.launchContents m' c) = Cert.KernelIdeal.Hand.a0 m c from e0,
    show Cert.ReferenceIdeal.Hand.e1 (StableHlo.launchContents m' c) = Cert.KernelIdeal.Hand.a1 m c from e1,
    show Cert.ReferenceIdeal.Hand.e3 (StableHlo.launchContents m' c) = Cert.KernelIdeal.Hand.a3 m c from e3,
    show Cert.ReferenceIdeal.Hand.e4 (StableHlo.launchContents m' c) = Cert.KernelIdeal.Hand.a4 m c from e4,
    show Cert.ReferenceIdeal.Hand.e5 (StableHlo.launchContents m' c) = Cert.KernelIdeal.Hand.a5 m c from e5,
    show Cert.ReferenceIdeal.Hand.e6 (StableHlo.launchContents m' c) = Cert.KernelIdeal.Hand.a6 m c from e6]
  rfl

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Whole.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Hand.Frame
public import proofs.«01_k».proof.Proof.Hand.Algebraic
public import Idealize.ShloMosaic.Adequacy
public import Idealize.ShloMosaic.Init

@[expose] public section

noncomputable section

namespace Cert.Proof

open Idealize.ShloMosaic Idealize.SL.Sem Cert.Kernel

/-- The kernel's run. -/
theorem frame_p : Cert.quiescent_Kernel := fun m ρ _ => Cert.Kernel.Whole.frame m ρ

/-- The idealized kernel's run. -/
theorem frame_pi : Cert.quiescent_KernelIdeal := fun m ρ _ => Cert.KernelIdeal.Hand.run_frame m ρ

/-- The reference's run. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The name `inv_n` stands for the reciprocal of the number of rows, which the kernel's literal is at its own format. -/
theorem preserves : Cert.preserves_Kernel_KernelIdeal :=
  IdealRules.named_const.statement Cert.KernelIdeal.κ "inv_n" .f32 0x3651B717#32 ((320000⁻¹ : ℝ) : EReal) rfl

/-- Everything claimed. The runs hold of every memory, so also of those the precondition admits. -/
theorem claim : Cert.Claim := ⟨Cert.Kernel.Gen.facts, Cert.KernelIdeal.Gen.facts, Cert.ReferenceIdeal.Gen.facts,
  Cert.KernelIdeal.Hand.pre_facts, frame_p, frame_pi, fun m ρ _ => frame_pi m ρ trivial, frame_ri, fun m ρ _ => frame_ri m ρ trivial,
  preserves, Cert.Hand.algebraic⟩

end Cert.Proof

end
